-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "mask" .f32 0xFF61B1E6#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x2048x240 : Shape := ⟨3, ![2, 2048, 240]⟩
abbrev S_ : Shape := ⟨0, ![]⟩
abbrev S240x8 : Shape := ⟨2, ![240, 8]⟩
abbrev S80x8 : Shape := ⟨2, ![80, 8]⟩
abbrev S4x8x240 : Shape := ⟨3, ![4, 8, 240]⟩
abbrev S4x8 : Shape := ⟨2, ![4, 8]⟩
abbrev S4x8x240x240 : Shape := ⟨4, ![4, 8, 240, 240]⟩
abbrev S240 : Shape := ⟨1, ![240]⟩
abbrev S1x240 : Shape := ⟨2, ![1, 240]⟩
abbrev S1 : Shape := ⟨1, ![1]⟩

class Facts : Prop where
  bcast_S_S2x2048x240 : S_.BroadcastsInDim S2x2048x240 (![] : Fin 0 → Fin S2x2048x240.rank)
  reducesTo_S2x2048x240_S_d0_1_2 : S2x2048x240.ReducesTo [0, 1, 2] S_
  h_S_ : 0 < S_.numel
  bcast_S_S240x8 : S_.BroadcastsInDim S240x8 (![] : Fin 0 → Fin S240x8.rank)
  reducesTo_S240x8_S_d0_1 : S240x8.ReducesTo [0, 1] S_
  bcast_S_S80x8 : S_.BroadcastsInDim S80x8 (![] : Fin 0 → Fin S80x8.rank)
  reducesTo_S80x8_S_d0_1 : S80x8.ReducesTo [0, 1] S_
  bcast_S_S4x8x240 : S_.BroadcastsInDim S4x8x240 (![] : Fin 0 → Fin S4x8x240.rank)
  reducesTo_S4x8x240_S_d0_1_2 : S4x8x240.ReducesTo [0, 1, 2] S_
  bcast_S_S4x8x240x240 : S_.BroadcastsInDim S4x8x240x240 (![] : Fin 0 → Fin S4x8x240x240.rank)
  reducesTo_S4x8x240x240_S_d0_1_2_3 : S4x8x240x240.ReducesTo [0, 1, 2, 3] S_
  bcast_S_S1x240 : S_.BroadcastsInDim S1x240 (![] : Fin 0 → Fin S1x240.rank)
  reducesTo_S1x240_S_d0_1 : S1x240.ReducesTo [0, 1] S_
  bcast_S_S4x8 : S_.BroadcastsInDim S4x8 (![] : Fin 0 → Fin S4x8.rank)
  reducesTo_S4x8_S_d0_1 : S4x8.ReducesTo [0, 1] S_
  bcast_S_S240 : S_.BroadcastsInDim S240 (![] : Fin 0 → Fin S240.rank)
  reducesTo_S240_S_d0 : S240.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S4x8x240 .f32) (main_arg8 : FVec F S240 .f32) (main_arg9 : FVec F S240 .f32) (main_arg11 : FVec F S1 .f32) (main_v28 : IVec S_ 1) (main_v31 : IVec S_ 1) (main_v32 : FVec F S4x8x240 .f32) : IVec S_ 1 :=
  let main_v33 : IVec S4x8x240 1 := cmpf .oeq main_arg7 main_v32
  let main_c_13 : IVec S_ 1 := constantI S_ 1 1#1
  let main_v34 : IVec S_ 1 := (fun x v => Host.reduce IntOp.andi x v reducesTo_S4x8x240_S_d0_1_2 h_S_) main_v33 main_c_13
  let main_v35 : IVec S_ 1 := andi main_v31 main_v34
  let main_cst_14 : FVec F S_ .f32 := constant S_ .f32 0x3F800000#32
  let main_v36 : FVec F S240 .f32 := broadcastInDim S240 ![] bcast_S_S240 main_cst_14
  let main_v37 : IVec S240 1 := cmpf .oeq main_arg8 main_v36
  let main_c_15 : IVec S_ 1 := constantI S_ 1 1#1
  let main_v38 : IVec S_ 1 := (fun x v => Host.reduce IntOp.andi x v reducesTo_S240_S_d0 h_S_) main_v37 main_c_15
  let main_v39 : IVec S_ 1 := andi main_v35 main_v38
  let main_cst_16 : FVec F S_ .f32 := constant S_ .f32 0x00000000#32
  let main_v40 : FVec F S240 .f32 := broadcastInDim S240 ![] bcast_S_S240 main_cst_16
  let main_v41 : IVec S240 1 := cmpf .oeq main_arg9 main_v40
  let main_c_17 : IVec S_ 1 := constantI S_ 1 1#1
  let main_v42 : IVec S_ 1 := (fun x v => Host.reduce IntOp.andi x v reducesTo_S240_S_d0 h_S_) main_v41 main_c_17
  let main_v43 : IVec S_ 1 := andi main_v39 main_v42
  let main_cst_18 : FVec F S_ .f32 := constant S_ .f32 0x00000000#32
  let main_v44 : FVec F S1 .f32 := broadcastInDim S1 ![] bcast_S_S1 main_cst_18
  let main_v45 : IVec S1 1 := cmpf .oeq main_arg11 main_v44
  let main_c_19 : IVec S_ 1 := constantI S_ 1 1#1
  let main_v46 : IVec S_ 1 := (fun x v => Host.reduce IntOp.andi x v reducesTo_S1_S_d0 h_S_) main_v45 main_c_19
  let main_v47 : IVec S_ 1 := andi main_v43 main_v46
  let main_v48 : IVec S_ 1 := andi main_v28 main_v47
  main_v48

def fn_part1 {F : FTy → Type} [FloatOps F] (main_arg5 : FVec F S4x8 .f32) (main_arg6 : FVec F S4x8x240x240 .f32) (main_arg7 : FVec F S4x8x240 .f32) (main_arg8 : FVec F S240 .f32) (main_arg9 : FVec F S240 .f32) (main_arg10 : FVec F S1x240 .f32) (main_arg11 : FVec F S1 .f32) (main_v13 : IVec S_ 1) (main_v16 : IVec S4x8x240 1) : IVec S_ 1 :=
  let main_c_5 : IVec S_ 1 := constantI S_ 1 1#1
  let main_v17 : IVec S_ 1 := (fun x v => Host.reduce IntOp.andi x v reducesTo_S4x8x240_S_d0_1_2 h_S_) main_v16 main_c_5
  let main_v18 : IVec S_ 1 := andi main_v13 main_v17
  let main_v19 : FVec F S4x8x240x240 .f32 := Host.absf main_arg6
  let main_cst_6 : FVec F S_ .f32 := constant S_ .f32 0x7F800000#32
  let main_v20 : FVec F S4x8x240x240 .f32 := broadcastInDim S4x8x240x240 ![] bcast_S_S4x8x240x240 main_cst_6
  let main_v21 : IVec S4x8x240x240 1 := cmpf .olt main_v19 main_v20
  let main_c_7 : IVec S_ 1 := constantI S_ 1 1#1
  let main_v22 : IVec S_ 1 := (fun x v => Host.reduce IntOp.andi x v reducesTo_S4x8x240x240_S_d0_1_2_3 h_S_) main_v21 main_c_7
  let main_v23 : IVec S_ 1 := andi main_v18 main_v22
  let main_v24 : FVec F S1x240 .f32 := Host.absf main_arg10
  let main_cst_8 : FVec F S_ .f32 := constant S_ .f32 0x7F800000#32
  let main_v25 : FVec F S1x240 .f32 := broadcastInDim S1x240 ![] bcast_S_S1x240 main_cst_8
  let main_v26 : IVec S1x240 1 := cmpf .olt main_v24 main_v25
  let main_c_9 : IVec S_ 1 := constantI S_ 1 1#1
  let main_v27 : IVec S_ 1 := (fun x v => Host.reduce IntOp.andi x v reducesTo_S1x240_S_d0_1 h_S_) main_v26 main_c_9
  let main_v28 : IVec S_ 1 := andi main_v23 main_v27
  let main_cst_10 : FVec F S_ .f32 := constant S_ .f32 0x00000000#32
  let main_v29 : FVec F S4x8 .f32 := broadcastInDim S4x8 ![] bcast_S_S4x8 main_cst_10
  let main_v30 : IVec S4x8 1 := cmpf .oeq main_arg5 main_v29
  let main_c_11 : IVec S_ 1 := constantI S_ 1 1#1
  let main_v31 : IVec S_ 1 := (fun x v => Host.reduce IntOp.andi x v reducesTo_S4x8_S_d0_1 h_S_) main_v30 main_c_11
  let main_cst_12 : FVec F S_ .f32 := constant S_ .f32 0x00000000#32
  let main_v32 : FVec F S4x8x240 .f32 := broadcastInDim S4x8x240 ![] bcast_S_S4x8x240 main_cst_12
  fn_part2 (F := F) main_arg7 main_arg8 main_arg9 main_arg11 main_v28 main_v31 main_v32

def fn {F : FTy → Type} [FloatOps F] (main_arg0 : FVec F S2x2048x240 .f32) (main_arg1 : IVec S_ 32) (main_arg2 : FVec F S240x8 .f32) (main_arg3 : FVec F S80x8 .f32) (main_arg4 : FVec F S4x8x240 .f32) (main_arg5 : FVec F S4x8 .f32) (main_arg6 : FVec F S4x8x240x240 .f32) (main_arg7 : FVec F S4x8x240 .f32) (main_arg8 : FVec F S240 .f32) (main_arg9 : FVec F S240 .f32) (main_arg10 : FVec F S1x240 .f32) (main_arg11 : FVec F S1 .f32) : IVec S_ 1 :=
  let main_v0 : FVec F S2x2048x240 .f32 := Host.absf main_arg0
  let main_cst : FVec F S_ .f32 := constant S_ .f32 0x7F800000#32
  let main_v1 : FVec F S2x2048x240 .f32 := broadcastInDim S2x2048x240 ![] bcast_S_S2x2048x240 main_cst
  let main_v2 : IVec S2x2048x240 1 := cmpf .olt main_v0 main_v1
  let main_c : IVec S_ 1 := constantI S_ 1 1#1
  let main_v3 : IVec S_ 1 := (fun x v => Host.reduce IntOp.andi x v reducesTo_S2x2048x240_S_d0_1_2 h_S_) main_v2 main_c
  let main_v4 : FVec F S240x8 .f32 := Host.absf main_arg2
  let main_cst_0 : FVec F S_ .f32 := constant S_ .f32 0x7F800000#32
  let main_v5 : FVec F S240x8 .f32 := broadcastInDim S240x8 ![] bcast_S_S240x8 main_cst_0
  let main_v6 : IVec S240x8 1 := cmpf .olt main_v4 main_v5
  let main_c_1 : IVec S_ 1 := constantI S_ 1 1#1
  let main_v7 : IVec S_ 1 := (fun x v => Host.reduce IntOp.andi x v reducesTo_S240x8_S_d0_1 h_S_) main_v6 main_c_1
  let main_v8 : IVec S_ 1 := andi main_v3 main_v7
  let main_v9 : FVec F S80x8 .f32 := Host.absf main_arg3
  let main_cst_2 : FVec F S_ .f32 := constant S_ .f32 0x7F800000#32
  let main_v10 : FVec F S80x8 .f32 := broadcastInDim S80x8 ![] bcast_S_S80x8 main_cst_2
  let main_v11 : IVec S80x8 1 := cmpf .olt main_v9 main_v10
  let main_c_3 : IVec S_ 1 := constantI S_ 1 1#1
  let main_v12 : IVec S_ 1 := (fun x v => Host.reduce IntOp.andi x v reducesTo_S80x8_S_d0_1 h_S_) main_v11 main_c_3
  let main_v13 : IVec S_ 1 := andi main_v8 main_v12
  let main_v14 : FVec F S4x8x240 .f32 := Host.absf main_arg4
  let main_cst_4 : FVec F S_ .f32 := constant S_ .f32 0x7F800000#32
  let main_v15 : FVec F S4x8x240 .f32 := broadcastInDim S4x8x240 ![] bcast_S_S4x8x240 main_cst_4
  let main_v16 : IVec S4x8x240 1 := cmpf .olt main_v14 main_v15
  fn_part1 (F := F) main_arg5 main_arg6 main_arg7 main_arg8 main_arg9 main_arg10 main_arg11 main_v13 main_v16
-- ==== Kernel.lean ====
abbrev S2x2048x240 : Shape := ⟨3, ![2, 2048, 240]⟩
abbrev S_ : Shape := ⟨0, ![]⟩
abbrev S240x8 : Shape := ⟨2, ![240, 8]⟩
abbrev S80x8 : Shape := ⟨2, ![80, 8]⟩
abbrev S4x8x240 : Shape := ⟨3, ![4, 8, 240]⟩
abbrev S4x8 : Shape := ⟨2, ![4, 8]⟩
abbrev S4x8x240x240 : Shape := ⟨4, ![4, 8, 240, 240]⟩
abbrev S240 : Shape := ⟨1, ![240]⟩
abbrev S1x240 : Shape := ⟨2, ![1, 240]⟩
abbrev S1 : Shape := ⟨1, ![1]⟩
abbrev S1x1 : Shape := ⟨2, ![1, 1]⟩
abbrev S2x1x128 : Shape := ⟨3, ![2, 1, 128]⟩
abbrev S1x2048x240 : Shape := ⟨3, ![1, 2048, 240]⟩
abbrev S1x1x128 : Shape := ⟨3, ![1, 1, 128]⟩
abbrev S720x240 : Shape := ⟨2, ![720, 240]⟩
abbrev S4x1920x240 : Shape := ⟨3, ![4, 1920, 240]⟩
abbrev S240x2048 : Shape := ⟨2, ![240, 2048]⟩
abbrev S1x1x240x240 : Shape := ⟨4, ![1, 1, 240, 240]⟩
abbrev S240x240 : Shape := ⟨2, ![240, 240]⟩
abbrev S1x240x240 : Shape := ⟨3, ![1, 240, 240]⟩
abbrev S8x2048 : Shape := ⟨2, ![8, 2048]⟩
abbrev S80x2048 : Shape := ⟨2, ![80, 2048]⟩
abbrev S1x2048 : Shape := ⟨2, ![1, 2048]⟩
abbrev S239x2048 : Shape := ⟨2, ![239, 2048]⟩
abbrev S2048x240 : Shape := ⟨2, ![2048, 240]⟩
abbrev S720x2048 : Shape := ⟨2, ![720, 2048]⟩
abbrev S1x8x240 : Shape := ⟨3, ![1, 8, 240]⟩
abbrev S8x240 : Shape := ⟨2, ![8, 240]⟩
abbrev S2048 : Shape := ⟨1, ![2048]⟩
abbrev S1x1920x240 : Shape := ⟨3, ![1, 1920, 240]⟩
abbrev S1920x240 : Shape := ⟨2, ![1920, 240]⟩
abbrev S1920x2048 : Shape := ⟨2, ![1920, 2048]⟩
abbrev S240x1024 : Shape := ⟨2, ![240, 1024]⟩
abbrev S240x512 : Shape := ⟨2, ![240, 512]⟩
abbrev S240x256 : Shape := ⟨2, ![240, 256]⟩
abbrev S240x128 : Shape := ⟨2, ![240, 128]⟩
abbrev S1x128 : Shape := ⟨2, ![1, 128]⟩
abbrev S1x1x1 : Shape := ⟨3, ![1, 1, 1]⟩
abbrev S2x1x1 : Shape := ⟨3, ![2, 1, 1]⟩
abbrev S2x1 : Shape := ⟨2, ![2, 1]⟩

abbrev nBuf : Space → Nat
  | .hbm => 17
  | .vmem => 15
  | .smem => 1
  | _ => 0

abbrev bufTy : (tb : Table) → Fin (tcTables nBuf tb) → BufTy
  | .hbm, ⟨0, _⟩ => ⟨S2x2048x240, .f32⟩
  | .hbm, ⟨1, _⟩ => ⟨S_, .i32⟩
  | .hbm, ⟨2, _⟩ => ⟨S240x8, .f32⟩
  | .hbm, ⟨3, _⟩ => ⟨S80x8, .f32⟩
  | .hbm, ⟨4, _⟩ => ⟨S4x8x240, .f32⟩
  | .hbm, ⟨5, _⟩ => ⟨S4x8, .f32⟩
  | .hbm, ⟨6, _⟩ => ⟨S4x8x240x240, .f32⟩
  | .hbm, ⟨7, _⟩ => ⟨S4x8x240, .f32⟩
  | .hbm, ⟨8, _⟩ => ⟨S240, .f32⟩
  | .hbm, ⟨9, _⟩ => ⟨S240, .f32⟩
  | .hbm, ⟨10, _⟩ => ⟨S1x240, .f32⟩
  | .hbm, ⟨11, _⟩ => ⟨S1, .f32⟩
  | .hbm, ⟨12, _⟩ => ⟨S_, .f32⟩
  | .hbm, ⟨13, _⟩ => ⟨S1x1, .f32⟩
  | .hbm, ⟨14, _⟩ => ⟨S2x1x128, .f32⟩
  | .hbm, ⟨15, _⟩ => ⟨S2x1x1, .f32⟩
  | .hbm, ⟨16, _⟩ => ⟨S2x1, .f32⟩
  | .local _ .vmem, ⟨0, _⟩ => ⟨S1x2048x240, .f32⟩
  | .local _ .vmem, ⟨1, _⟩ => ⟨S1x2048x240, .f32⟩
  | .local _ .vmem, ⟨2, _⟩ => ⟨S240x8, .f32⟩
  | .local _ .vmem, ⟨3, _⟩ => ⟨S80x8, .f32⟩
  | .local _ .vmem, ⟨4, _⟩ => ⟨S4x8x240, .f32⟩
  | .local _ .vmem, ⟨5, _⟩ => ⟨S4x8x240x240, .f32⟩
  | .local _ .vmem, ⟨6, _⟩ => ⟨S1x240, .f32⟩
  | .local _ .vmem, ⟨7, _⟩ => ⟨S1x1x128, .f32⟩
  | .local _ .vmem, ⟨8, _⟩ => ⟨S1x1x128, .f32⟩
  | .local _ .vmem, ⟨9, _⟩ => ⟨S720x240, .bf16⟩
  | .local _ .vmem, ⟨10, _⟩ => ⟨S4x1920x240, .bf16⟩
  | .local _ .vmem, ⟨11, _⟩ => ⟨S4x8x240, .bf16⟩
  | .local _ .vmem, ⟨12, _⟩ => ⟨S240x2048, .f32⟩
  | .local _ .vmem, ⟨13, _⟩ => ⟨S240x2048, .f32⟩
  | .local _ .vmem, ⟨14, _⟩ => ⟨S240x2048, .f32⟩
  | .local _ .smem, ⟨0, _⟩ => ⟨S1x1, .f32⟩
  | _, _ => ⟨S2x2048x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S240x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S80x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x240x240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | "third" => some ((1 / 3 : ℝ) : EReal)
  | _ => none
-- ==== ReferenceIdeal.lean ====
abbrev S2x2048x240 : Shape := ⟨3, ![2, 2048, 240]⟩
abbrev S_ : Shape := ⟨0, ![]⟩
abbrev S240x8 : Shape := ⟨2, ![240, 8]⟩
abbrev S80x8 : Shape := ⟨2, ![80, 8]⟩
abbrev S4x8x240 : Shape := ⟨3, ![4, 8, 240]⟩
abbrev S4x8 : Shape := ⟨2, ![4, 8]⟩
abbrev S4x8x240x240 : Shape := ⟨4, ![4, 8, 240, 240]⟩
abbrev S240 : Shape := ⟨1, ![240]⟩
abbrev S1x240 : Shape := ⟨2, ![1, 240]⟩
abbrev S1 : Shape := ⟨1, ![1]⟩
abbrev S2048 : Shape := ⟨1, ![2048]⟩
abbrev S2048x1 : Shape := ⟨2, ![2048, 1]⟩
abbrev S2048x8 : Shape := ⟨2, ![2048, 8]⟩
abbrev S8x80 : Shape := ⟨2, ![8, 80]⟩
abbrev S2048x80 : Shape := ⟨2, ![2048, 80]⟩
abbrev S1x2048x1x80 : Shape := ⟨4, ![1, 2048, 1, 80]⟩
abbrev S1x2048x3x80 : Shape := ⟨4, ![1, 2048, 3, 80]⟩
abbrev S2048x240 : Shape := ⟨2, ![2048, 240]⟩
abbrev S1x2048x240 : Shape := ⟨3, ![1, 2048, 240]⟩
abbrev S2x2048x1 : Shape := ⟨3, ![2, 2048, 1]⟩
abbrev S2x2048x239 : Shape := ⟨3, ![2, 2048, 239]⟩
abbrev S1x8x240 : Shape := ⟨3, ![1, 8, 240]⟩
abbrev S8x240 : Shape := ⟨2, ![8, 240]⟩
abbrev S1x8 : Shape := ⟨2, ![1, 8]⟩
abbrev S8 : Shape := ⟨1, ![8]⟩
abbrev S1x8x240x240 : Shape := ⟨4, ![1, 8, 240, 240]⟩
abbrev S8x240x240 : Shape := ⟨3, ![8, 240, 240]⟩
abbrev S2x2048x8 : Shape := ⟨3, ![2, 2048, 8]⟩
abbrev S1x1x8 : Shape := ⟨3, ![1, 1, 8]⟩
abbrev S2x2048 : Shape := ⟨2, ![2, 2048]⟩
abbrev S2x2048x2 : Shape := ⟨3, ![2, 2048, 2]⟩
abbrev S2x2048x2x1 : Shape := ⟨4, ![2, 2048, 2, 1]⟩
abbrev S1x1x1x8 : Shape := ⟨4, ![1, 1, 1, 8]⟩
abbrev S2x2048x2x8 : Shape := ⟨4, ![2, 2048, 2, 8]⟩
abbrev S2x2048x8x240 : Shape := ⟨4, ![2, 2048, 8, 240]⟩
abbrev S1x1x8x240 : Shape := ⟨4, ![1, 1, 8, 240]⟩
abbrev S1x1x240 : Shape := ⟨3, ![1, 1, 240]⟩
abbrev S2x240 : Shape := ⟨2, ![2, 240]⟩
abbrev S240x1 : Shape := ⟨2, ![240, 1]⟩
abbrev S2x1 : Shape := ⟨2, ![2, 1]⟩
abbrev S1x1 : Shape := ⟨2, ![1, 1]⟩

abbrev nBuf : Space → Nat
  | .hbm => 399
  | .vmem => 0
  | .smem => 0
  | _ => 0

abbrev hbmTy0_0 (i : Nat) : BufTy := match i % 128 with
  | 0 => ⟨S2x2048x240, .f32⟩
  | 1 => ⟨S_, .i32⟩
  | 2 => ⟨S240x8, .f32⟩
  | 3 => ⟨S80x8, .f32⟩
  | 4 => ⟨S4x8x240, .f32⟩
  | 5 => ⟨S4x8, .f32⟩
  | 6 => ⟨S4x8x240x240, .f32⟩
  | 7 => ⟨S4x8x240, .f32⟩
  | 8 => ⟨S240, .f32⟩
  | 9 => ⟨S240, .f32⟩
  | 10 => ⟨S1x240, .f32⟩
  | 11 => ⟨S1, .f32⟩
  | 12 => ⟨S2048, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S2048, .i32⟩
  | 20 => ⟨S2048, .i32⟩
  | 21 => ⟨S_, .i32⟩
  | 22 => ⟨S2048, .i32⟩
  | 23 => ⟨S2048, .i1⟩
  | 24 => ⟨S_, .i32⟩
  | 25 => ⟨S2048, .i32⟩
  | 26 => ⟨S2048, .i1⟩
  | 27 => ⟨S_, .i32⟩
  | 28 => ⟨S_, .i1⟩
  | 29 => ⟨S2048, .i1⟩
  | 30 => ⟨S2048, .i1⟩
  | 31 => ⟨S2048, .i1⟩
  | 32 => ⟨S2048, .i32⟩
  | 33 => ⟨S2048, .i32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S2048x8, .f32⟩
  | 44 => ⟨S8x80, .f32⟩
  | 45 => ⟨S2048x80, .f32⟩
  | 46 => ⟨S1x2048x1x80, .f32⟩
  | 47 => ⟨S1x2048x3x80, .f32⟩
  | 48 => ⟨S2048x240, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S2048x240, .f32⟩
  | 56 => ⟨S_, .f32⟩
  | 57 => ⟨S2048x240, .f32⟩
  | 58 => ⟨S2048x240, .f32⟩
  | 59 => ⟨S1x2048x240, .f32⟩
  | 60 => ⟨S2x2048x240, .f32⟩
  | 61 => ⟨S2x2048x240, .f32⟩
  | 62 => ⟨S2x2048x1, .f32⟩
  | 63 => ⟨S2x2048x239, .f32⟩
  | 64 => ⟨S2x2048x240, .f32⟩
  | 65 => ⟨S2048x240, .f32⟩
  | 66 => ⟨S1x2048x240, .f32⟩
  | 67 => ⟨S2x2048x240, .f32⟩
  | 68 => ⟨S2x2048x240, .f32⟩
  | 69 => ⟨S2x2048x1, .f32⟩
  | 70 => ⟨S2x2048x239, .f32⟩
  | 71 => ⟨S2x2048x240, .f32⟩
  | 72 => ⟨S2048x240, .f32⟩
  | 73 => ⟨S1x2048x240, .f32⟩
  | 74 => ⟨S2x2048x240, .f32⟩
  | 75 => ⟨S2x2048x240, .f32⟩
  | 76 => ⟨S2x2048x240, .f32⟩
  | 77 => ⟨S2x2048x240, .f32⟩
  | 78 => ⟨S_, .f32⟩
  | 79 => ⟨S2x2048x240, .f32⟩
  | 80 => ⟨S2x2048x240, .f32⟩
  | 81 => ⟨S1x8x240, .f32⟩
  | 82 => ⟨S8x240, .f32⟩
  | 83 => ⟨S1x8, .f32⟩
  | 84 => ⟨S8, .f32⟩
  | 85 => ⟨S1x8x240x240, .f32⟩
  | 86 => ⟨S8x240x240, .f32⟩
  | 87 => ⟨S1x8x240, .f32⟩
  | 88 => ⟨S8x240, .f32⟩
  | 89 => ⟨S2x2048x8, .f32⟩
  | 90 => ⟨S1x1x8, .f32⟩
  | 91 => ⟨S2x2048x8, .f32⟩
  | 92 => ⟨S2x2048x8, .f32⟩
  | 93 => ⟨S_, .f32⟩
  | 94 => ⟨S2x2048, .f32⟩
  | 95 => ⟨S_, .f32⟩
  | 96 => ⟨S2x2048, .f32⟩
  | 97 => ⟨S2x2048, .f32⟩
  | 98 => ⟨S2x2048x1, .f32⟩
  | 99 => ⟨S2x2048x8, .f32⟩
  | 100 => ⟨S2x2048x8, .f32⟩
  | 101 => ⟨S2x2048x8, .f32⟩
  | 102 => ⟨S_, .f32⟩
  | 103 => ⟨S2x2048, .f32⟩
  | 104 => ⟨S2x2048x1, .f32⟩
  | 105 => ⟨S2x2048x8, .f32⟩
  | 106 => ⟨S2x2048x8, .f32⟩
  | 107 => ⟨S2x2048x2, .f32⟩
  | 108 => ⟨S2x2048x2, .i32⟩
  | 109 => ⟨S_, .f32⟩
  | 110 => ⟨S2x2048, .f32⟩
  | 111 => ⟨S2x2048x1, .f32⟩
  | 112 => ⟨S2x2048x2, .f32⟩
  | 113 => ⟨S2x2048x2, .f32⟩
  | 114 => ⟨S2x2048x2x1, .i32⟩
  | 115 => ⟨S1x1x1x8, .i32⟩
  | 116 => ⟨S2x2048x2x8, .i32⟩
  | 117 => ⟨S2x2048x2x8, .i32⟩
  | 118 => ⟨S2x2048x2x8, .i1⟩
  | 119 => ⟨S2x2048x2x8, .f32⟩
  | 120 => ⟨S2x2048x8, .f32⟩
  | 121 => ⟨S2x2048x8x240, .f32⟩
  | 122 => ⟨S1x1x8x240, .f32⟩
  | 123 => ⟨S2x2048x8x240, .f32⟩
  | 124 => ⟨S2x2048x8x240, .f32⟩
  | 125 => ⟨S2x2048x240, .f32⟩
  | 126 => ⟨S_, .f32⟩
  | 127 => ⟨S2x2048, .f32⟩
  | _ => ⟨S2x2048x240, .f32⟩

abbrev hbmTy0_1 (i : Nat) : BufTy := match i % 128 with
  | 0 => ⟨S2x2048x1, .f32⟩
  | 1 => ⟨S_, .f32⟩
  | 2 => ⟨S2x2048x1, .f32⟩
  | 3 => ⟨S2x2048x1, .f32⟩
  | 4 => ⟨S2x2048x240, .f32⟩
  | 5 => ⟨S2x2048x240, .f32⟩
  | 6 => ⟨S2x2048x240, .f32⟩
  | 7 => ⟨S_, .f32⟩
  | 8 => ⟨S2x2048, .f32⟩
  | 9 => ⟨S2x2048x1, .f32⟩
  | 10 => ⟨S_, .f32⟩
  | 11 => ⟨S2x2048x1, .f32⟩
  | 12 => ⟨S2x2048x1, .f32⟩
  | 13 => ⟨S2x2048x240, .f32⟩
  | 14 => ⟨S2x2048x240, .f32⟩
  | 15 => ⟨S_, .f32⟩
  | 16 => ⟨S2x2048x1, .f32⟩
  | 17 => ⟨S2x2048x1, .f32⟩
  | 18 => ⟨S2x2048x1, .f32⟩
  | 19 => ⟨S2x2048x240, .f32⟩
  | 20 => ⟨S2x2048x240, .f32⟩
  | 21 => ⟨S1x1x240, .f32⟩
  | 22 => ⟨S2x2048x240, .f32⟩
  | 23 => ⟨S2x2048x240, .f32⟩
  | 24 => ⟨S1x1x240, .f32⟩
  | 25 => ⟨S2x2048x240, .f32⟩
  | 26 => ⟨S2x2048x240, .f32⟩
  | 27 => ⟨S2x2048x240, .f32⟩
  | 28 => ⟨S1x8x240, .f32⟩
  | 29 => ⟨S8x240, .f32⟩
  | 30 => ⟨S1x8, .f32⟩
  | 31 => ⟨S8, .f32⟩
  | 32 => ⟨S1x8x240x240, .f32⟩
  | 33 => ⟨S8x240x240, .f32⟩
  | 34 => ⟨S1x8x240, .f32⟩
  | 35 => ⟨S8x240, .f32⟩
  | 36 => ⟨S2x2048x8, .f32⟩
  | 37 => ⟨S1x1x8, .f32⟩
  | 38 => ⟨S2x2048x8, .f32⟩
  | 39 => ⟨S2x2048x8, .f32⟩
  | 40 => ⟨S_, .f32⟩
  | 41 => ⟨S2x2048, .f32⟩
  | 42 => ⟨S_, .f32⟩
  | 43 => ⟨S2x2048, .f32⟩
  | 44 => ⟨S2x2048, .f32⟩
  | 45 => ⟨S2x2048x1, .f32⟩
  | 46 => ⟨S2x2048x8, .f32⟩
  | 47 => ⟨S2x2048x8, .f32⟩
  | 48 => ⟨S2x2048x8, .f32⟩
  | 49 => ⟨S_, .f32⟩
  | 50 => ⟨S2x2048, .f32⟩
  | 51 => ⟨S2x2048x1, .f32⟩
  | 52 => ⟨S2x2048x8, .f32⟩
  | 53 => ⟨S2x2048x8, .f32⟩
  | 54 => ⟨S2x2048x2, .f32⟩
  | 55 => ⟨S2x2048x2, .i32⟩
  | 56 => ⟨S_, .f32⟩
  | 57 => ⟨S2x2048, .f32⟩
  | 58 => ⟨S2x2048x1, .f32⟩
  | 59 => ⟨S2x2048x2, .f32⟩
  | 60 => ⟨S2x2048x2, .f32⟩
  | 61 => ⟨S2x2048x2x1, .i32⟩
  | 62 => ⟨S1x1x1x8, .i32⟩
  | 63 => ⟨S2x2048x2x8, .i32⟩
  | 64 => ⟨S2x2048x2x8, .i32⟩
  | 65 => ⟨S2x2048x2x8, .i1⟩
  | 66 => ⟨S2x2048x2x8, .f32⟩
  | 67 => ⟨S2x2048x8, .f32⟩
  | 68 => ⟨S2x2048x8x240, .f32⟩
  | 69 => ⟨S1x1x8x240, .f32⟩
  | 70 => ⟨S2x2048x8x240, .f32⟩
  | 71 => ⟨S2x2048x8x240, .f32⟩
  | 72 => ⟨S2x2048x240, .f32⟩
  | 73 => ⟨S_, .f32⟩
  | 74 => ⟨S2x2048, .f32⟩
  | 75 => ⟨S2x2048x1, .f32⟩
  | 76 => ⟨S_, .f32⟩
  | 77 => ⟨S2x2048x1, .f32⟩
  | 78 => ⟨S2x2048x1, .f32⟩
  | 79 => ⟨S2x2048x240, .f32⟩
  | 80 => ⟨S2x2048x240, .f32⟩
  | 81 => ⟨S2x2048x240, .f32⟩
  | 82 => ⟨S_, .f32⟩
  | 83 => ⟨S2x2048, .f32⟩
  | 84 => ⟨S2x2048x1, .f32⟩
  | 85 => ⟨S_, .f32⟩
  | 86 => ⟨S2x2048x1, .f32⟩
  | 87 => ⟨S2x2048x1, .f32⟩
  | 88 => ⟨S2x2048x240, .f32⟩
  | 89 => ⟨S2x2048x240, .f32⟩
  | 90 => ⟨S_, .f32⟩
  | 91 => ⟨S2x2048x1, .f32⟩
  | 92 => ⟨S2x2048x1, .f32⟩
  | 93 => ⟨S2x2048x1, .f32⟩
  | 94 => ⟨S2x2048x240, .f32⟩
  | 95 => ⟨S2x2048x240, .f32⟩
  | 96 => ⟨S1x1x240, .f32⟩
  | 97 => ⟨S2x2048x240, .f32⟩
  | 98 => ⟨S2x2048x240, .f32⟩
  | 99 => ⟨S1x1x240, .f32⟩
  | 100 => ⟨S2x2048x240, .f32⟩
  | 101 => ⟨S2x2048x240, .f32⟩
  | 102 => ⟨S2x2048x240, .f32⟩
  | 103 => ⟨S1x8x240, .f32⟩
  | 104 => ⟨S8x240, .f32⟩
  | 105 => ⟨S1x8, .f32⟩
  | 106 => ⟨S8, .f32⟩
  | 107 => ⟨S1x8x240x240, .f32⟩
  | 108 => ⟨S8x240x240, .f32⟩
  | 109 => ⟨S1x8x240, .f32⟩
  | 110 => ⟨S8x240, .f32⟩
  | 111 => ⟨S2x2048x8, .f32⟩
  | 112 => ⟨S1x1x8, .f32⟩
  | 113 => ⟨S2x2048x8, .f32⟩
  | 114 => ⟨S2x2048x8, .f32⟩
  | 115 => ⟨S_, .f32⟩
  | 116 => ⟨S2x2048, .f32⟩
  | 117 => ⟨S_, .f32⟩
  | 118 => ⟨S2x2048, .f32⟩
  | 119 => ⟨S2x2048, .f32⟩
  | 120 => ⟨S2x2048x1, .f32⟩
  | 121 => ⟨S2x2048x8, .f32⟩
  | 122 => ⟨S2x2048x8, .f32⟩
  | 123 => ⟨S2x2048x8, .f32⟩
  | 124 => ⟨S_, .f32⟩
  | 125 => ⟨S2x2048, .f32⟩
  | 126 => ⟨S2x2048x1, .f32⟩
  | 127 => ⟨S2x2048x8, .f32⟩
  | _ => ⟨S2x2048x240, .f32⟩

abbrev hbmTy0_2 (i : Nat) : BufTy := match i % 128 with
  | 0 => ⟨S2x2048x8, .f32⟩
  | 1 => ⟨S2x2048x2, .f32⟩
  | 2 => ⟨S2x2048x2, .i32⟩
  | 3 => ⟨S_, .f32⟩
  | 4 => ⟨S2x2048, .f32⟩
  | 5 => ⟨S2x2048x1, .f32⟩
  | 6 => ⟨S2x2048x2, .f32⟩
  | 7 => ⟨S2x2048x2, .f32⟩
  | 8 => ⟨S2x2048x2x1, .i32⟩
  | 9 => ⟨S1x1x1x8, .i32⟩
  | 10 => ⟨S2x2048x2x8, .i32⟩
  | 11 => ⟨S2x2048x2x8, .i32⟩
  | 12 => ⟨S2x2048x2x8, .i1⟩
  | 13 => ⟨S2x2048x2x8, .f32⟩
  | 14 => ⟨S2x2048x8, .f32⟩
  | 15 => ⟨S2x2048x8x240, .f32⟩
  | 16 => ⟨S1x1x8x240, .f32⟩
  | 17 => ⟨S2x2048x8x240, .f32⟩
  | 18 => ⟨S2x2048x8x240, .f32⟩
  | 19 => ⟨S2x2048x240, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S2x2048x240, .f32⟩
  | 27 => ⟨S2x2048x240, .f32⟩
  | 28 => ⟨S2x2048x240, .f32⟩
  | 29 => ⟨S_, .f32⟩
  | 30 => ⟨S2x2048, .f32⟩
  | 31 => ⟨S2x2048x1, .f32⟩
  | 32 => ⟨S_, .f32⟩
  | 33 => ⟨S2x2048x1, .f32⟩
  | 34 => ⟨S2x2048x1, .f32⟩
  | 35 => ⟨S2x2048x240, .f32⟩
  | 36 => ⟨S2x2048x240, .f32⟩
  | 37 => ⟨S_, .f32⟩
  | 38 => ⟨S2x2048x1, .f32⟩
  | 39 => ⟨S2x2048x1, .f32⟩
  | 40 => ⟨S2x2048x1, .f32⟩
  | 41 => ⟨S2x2048x240, .f32⟩
  | 42 => ⟨S2x2048x240, .f32⟩
  | 43 => ⟨S1x1x240, .f32⟩
  | 44 => ⟨S2x2048x240, .f32⟩
  | 45 => ⟨S2x2048x240, .f32⟩
  | 46 => ⟨S1x1x240, .f32⟩
  | 47 => ⟨S2x2048x240, .f32⟩
  | 48 => ⟨S2x2048x240, .f32⟩
  | 49 => ⟨S2x2048x240, .f32⟩
  | 50 => ⟨S1x8x240, .f32⟩
  | 51 => ⟨S8x240, .f32⟩
  | 52 => ⟨S1x8, .f32⟩
  | 53 => ⟨S8, .f32⟩
  | 54 => ⟨S1x8x240x240, .f32⟩
  | 55 => ⟨S8x240x240, .f32⟩
  | 56 => ⟨S1x8x240, .f32⟩
  | 57 => ⟨S8x240, .f32⟩
  | 58 => ⟨S2x2048x8, .f32⟩
  | 59 => ⟨S1x1x8, .f32⟩
  | 60 => ⟨S2x2048x8, .f32⟩
  | 61 => ⟨S2x2048x8, .f32⟩
  | 62 => ⟨S_, .f32⟩
  | 63 => ⟨S2x2048, .f32⟩
  | 64 => ⟨S_, .f32⟩
  | 65 => ⟨S2x2048, .f32⟩
  | 66 => ⟨S2x2048, .f32⟩
  | 67 => ⟨S2x2048x1, .f32⟩
  | 68 => ⟨S2x2048x8, .f32⟩
  | 69 => ⟨S2x2048x8, .f32⟩
  | 70 => ⟨S2x2048x8, .f32⟩
  | 71 => ⟨S_, .f32⟩
  | 72 => ⟨S2x2048, .f32⟩
  | 73 => ⟨S2x2048x1, .f32⟩
  | 74 => ⟨S2x2048x8, .f32⟩
  | 75 => ⟨S2x2048x8, .f32⟩
  | 76 => ⟨S2x2048x2, .f32⟩
  | 77 => ⟨S2x2048x2, .i32⟩
  | 78 => ⟨S_, .f32⟩
  | 79 => ⟨S2x2048, .f32⟩
  | 80 => ⟨S2x2048x1, .f32⟩
  | 81 => ⟨S2x2048x2, .f32⟩
  | 82 => ⟨S2x2048x2, .f32⟩
  | 83 => ⟨S2x2048x2x1, .i32⟩
  | 84 => ⟨S1x1x1x8, .i32⟩
  | 85 => ⟨S2x2048x2x8, .i32⟩
  | 86 => ⟨S2x2048x2x8, .i32⟩
  | 87 => ⟨S2x2048x2x8, .i1⟩
  | 88 => ⟨S2x2048x2x8, .f32⟩
  | 89 => ⟨S2x2048x8, .f32⟩
  | 90 => ⟨S2x2048x8x240, .f32⟩
  | 91 => ⟨S1x1x8x240, .f32⟩
  | 92 => ⟨S2x2048x8x240, .f32⟩
  | 93 => ⟨S2x2048x8x240, .f32⟩
  | 94 => ⟨S2x2048x240, .f32⟩
  | 95 => ⟨S_, .f32⟩
  | 96 => ⟨S2x2048, .f32⟩
  | 97 => ⟨S2x2048x1, .f32⟩
  | 98 => ⟨S_, .f32⟩
  | 99 => ⟨S2x2048x1, .f32⟩
  | 100 => ⟨S2x2048x1, .f32⟩
  | 101 => ⟨S2x2048x240, .f32⟩
  | 102 => ⟨S2x2048x240, .f32⟩
  | 103 => ⟨S2x2048x240, .f32⟩
  | 104 => ⟨S_, .f32⟩
  | 105 => ⟨S2x2048, .f32⟩
  | 106 => ⟨S2x2048x1, .f32⟩
  | 107 => ⟨S_, .f32⟩
  | 108 => ⟨S2x2048x1, .f32⟩
  | 109 => ⟨S2x2048x1, .f32⟩
  | 110 => ⟨S2x2048x240, .f32⟩
  | 111 => ⟨S2x2048x240, .f32⟩
  | 112 => ⟨S_, .f32⟩
  | 113 => ⟨S2x2048x1, .f32⟩
  | 114 => ⟨S2x2048x1, .f32⟩
  | 115 => ⟨S2x2048x1, .f32⟩
  | 116 => ⟨S2x2048x240, .f32⟩
  | 117 => ⟨S2x2048x240, .f32⟩
  | 118 => ⟨S1x1x240, .f32⟩
  | 119 => ⟨S2x2048x240, .f32⟩
  | 120 => ⟨S2x2048x240, .f32⟩
  | 121 => ⟨S1x1x240, .f32⟩
  | 122 => ⟨S2x2048x240, .f32⟩
  | 123 => ⟨S2x2048x240, .f32⟩
  | 124 => ⟨S2x2048x240, .f32⟩
  | 125 => ⟨S_, .f32⟩
  | 126 => ⟨S2x240, .f32⟩
  | 127 => ⟨S_, .f32⟩
  | _ => ⟨S2x2048x240, .f32⟩

abbrev hbmTy0_3 (i : Nat) : BufTy := match i % 128 with
  | 0 => ⟨S2x240, .f32⟩
  | 1 => ⟨S2x240, .f32⟩
  | 2 => ⟨S240x1, .f32⟩
  | 3 => ⟨S2x1, .f32⟩
  | 4 => ⟨S1x1, .f32⟩
  | 5 => ⟨S2x1, .f32⟩
  | 6 => ⟨S2x1, .f32⟩
  | 7 => ⟨S2x1, .f32⟩
  | 8 => ⟨S2x1, .f32⟩
  | 9 => ⟨S_, .f32⟩
  | 10 => ⟨S2x1, .f32⟩
  | 11 => ⟨S2x1, .f32⟩
  | 12 => ⟨S_, .f32⟩
  | 13 => ⟨S2x1, .f32⟩
  | 14 => ⟨S2x1, .f32⟩
  | _ => ⟨S2x2048x240, .f32⟩

abbrev hbmTy (i : Nat) : BufTy := match i / 128 with
  | 0 => hbmTy0_0 i
  | 1 => hbmTy0_1 i
  | 2 => hbmTy0_2 i
  | 3 => hbmTy0_3 i
  | _ => ⟨S2x2048x240, .f32⟩

abbrev bufTy : (tb : Table) → Fin (tcTables nBuf tb) → BufTy
  | .hbm, ⟨i, _⟩ => hbmTy i
  | _, _ => ⟨S2x2048x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_c_1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst : Ref sig .tc := ⟨.hbm, 50, rfl⟩
abbrev main_v15 : Ref sig .tc := ⟨.hbm, 51, rfl⟩
abbrev main_v16 : Ref sig .tc := ⟨.hbm, 52, rfl⟩
abbrev main_cst_2 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_call1_v0 : Ref sig .tc := ⟨.hbm, 62, rfl⟩
abbrev main_call1_v1 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_call2_v0 : Ref sig .tc := ⟨.hbm, 69, rfl⟩
abbrev main_call2_v1 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_3 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_4 : Ref sig .tc := ⟨.hbm, 93, rfl⟩
abbrev main_v51 : Ref sig .tc := ⟨.hbm, 94, rfl⟩
abbrev main_cst_5 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_6 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_values : Ref sig .tc := ⟨.hbm, 107, rfl⟩
abbrev main_indices : Ref sig .tc := ⟨.hbm, 108, rfl⟩
abbrev main_cst_7 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_8 : Ref sig .tc := ⟨.hbm, 126, rfl⟩
abbrev main_v73 : Ref sig .tc := ⟨.hbm, 127, rfl⟩
abbrev main_v74 : Ref sig .tc := ⟨.hbm, 128, rfl⟩
abbrev main_cst_9 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_10 : Ref sig .tc := ⟨.hbm, 135, rfl⟩
abbrev main_v80 : Ref sig .tc := ⟨.hbm, 136, rfl⟩
abbrev main_v81 : Ref sig .tc := ⟨.hbm, 137, rfl⟩
abbrev main_cst_11 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_12 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_cst_13 : Ref sig .tc := ⟨.hbm, 168, rfl⟩
abbrev main_v110 : Ref sig .tc := ⟨.hbm, 169, rfl⟩
abbrev main_cst_14 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_15 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_values_16 : Ref sig .tc := ⟨.hbm, 182, rfl⟩
abbrev main_indices_17 : Ref sig .tc := ⟨.hbm, 183, rfl⟩
abbrev main_cst_18 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_call4_v0 : Ref sig .tc := ⟨.hbm, 189, rfl⟩
abbrev main_call4_v1 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_cst_19 : Ref sig .tc := ⟨.hbm, 201, rfl⟩
abbrev main_v132 : Ref sig .tc := ⟨.hbm, 202, rfl⟩
abbrev main_v133 : Ref sig .tc := ⟨.hbm, 203, rfl⟩
abbrev main_cst_20 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_21 : Ref sig .tc := ⟨.hbm, 210, rfl⟩
abbrev main_v139 : Ref sig .tc := ⟨.hbm, 211, rfl⟩
abbrev main_v140 : Ref sig .tc := ⟨.hbm, 212, rfl⟩
abbrev main_cst_22 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_cst_23 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_cst_24 : Ref sig .tc := ⟨.hbm, 243, rfl⟩
abbrev main_v169 : Ref sig .tc := ⟨.hbm, 244, rfl⟩
abbrev main_cst_25 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_cst_26 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_values_27 : Ref sig .tc := ⟨.hbm, 257, rfl⟩
abbrev main_indices_28 : Ref sig .tc := ⟨.hbm, 258, rfl⟩
abbrev main_cst_29 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_call5_v0 : Ref sig .tc := ⟨.hbm, 264, rfl⟩
abbrev main_call5_v1 : Ref sig .tc := ⟨.hbm, 265, rfl⟩
abbrev main_call5_v2 : Ref sig .tc := ⟨.hbm, 266, rfl⟩
abbrev main_call5_v3 : Ref sig .tc := ⟨.hbm, 267, rfl⟩
abbrev main_call5_v4 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_30 : Ref sig .tc := ⟨.hbm, 276, rfl⟩
abbrev main_v191 : Ref sig .tc := ⟨.hbm, 277, rfl⟩
abbrev main_v192 : Ref sig .tc := ⟨.hbm, 278, rfl⟩
abbrev main_cst_31 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_cst_32 : Ref sig .tc := ⟨.hbm, 285, rfl⟩
abbrev main_v198 : Ref sig .tc := ⟨.hbm, 286, rfl⟩
abbrev main_v199 : Ref sig .tc := ⟨.hbm, 287, rfl⟩
abbrev main_cst_33 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_v203 : Ref sig .tc := ⟨.hbm, 292, rfl⟩
abbrev main_cst_34 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_cst_35 : Ref sig .tc := ⟨.hbm, 318, rfl⟩
abbrev main_v228 : Ref sig .tc := ⟨.hbm, 319, rfl⟩
abbrev main_cst_36 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_cst_37 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_values_38 : Ref sig .tc := ⟨.hbm, 332, rfl⟩
abbrev main_indices_39 : Ref sig .tc := ⟨.hbm, 333, rfl⟩
abbrev main_cst_40 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_call6_v0 : Ref sig .tc := ⟨.hbm, 339, rfl⟩
abbrev main_call6_v1 : Ref sig .tc := ⟨.hbm, 340, rfl⟩
abbrev main_call6_v2 : Ref sig .tc := ⟨.hbm, 341, rfl⟩
abbrev main_call6_v3 : Ref sig .tc := ⟨.hbm, 342, rfl⟩
abbrev main_call6_v4 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_v249 : Ref sig .tc := ⟨.hbm, 350, rfl⟩
abbrev main_cst_41 : Ref sig .tc := ⟨.hbm, 351, rfl⟩
abbrev main_v250 : Ref sig .tc := ⟨.hbm, 352, rfl⟩
abbrev main_v251 : Ref sig .tc := ⟨.hbm, 353, rfl⟩
abbrev main_cst_42 : Ref sig .tc := ⟨.hbm, 354, rfl⟩
abbrev main_v252 : Ref sig .tc := ⟨.hbm, 355, rfl⟩
abbrev main_v253 : Ref sig .tc := ⟨.hbm, 356, rfl⟩
abbrev main_v254 : Ref sig .tc := ⟨.hbm, 357, rfl⟩
abbrev main_v255 : Ref sig .tc := ⟨.hbm, 358, rfl⟩
abbrev main_v256 : Ref sig .tc := ⟨.hbm, 359, rfl⟩
abbrev main_cst_43 : Ref sig .tc := ⟨.hbm, 360, rfl⟩
abbrev main_v257 : Ref sig .tc := ⟨.hbm, 361, rfl⟩
abbrev main_v258 : Ref sig .tc := ⟨.hbm, 362, rfl⟩
abbrev main_cst_44 : Ref sig .tc := ⟨.hbm, 363, rfl⟩
abbrev main_v259 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_cst_45 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_v270 : Ref sig .tc := ⟨.hbm, 376, rfl⟩
abbrev main_v271 : Ref sig .tc := ⟨.hbm, 377, rfl⟩
abbrev main_v272 : Ref sig .tc := ⟨.hbm, 378, rfl⟩
abbrev main_v273 : Ref sig .tc := ⟨.hbm, 379, rfl⟩
abbrev main_v274 : Ref sig .tc := ⟨.hbm, 380, rfl⟩
abbrev main_cst_46 : Ref sig .tc := ⟨.hbm, 381, rfl⟩
abbrev main_v275 : Ref sig .tc := ⟨.hbm, 382, rfl⟩
abbrev main_cst_47 : Ref sig .tc := ⟨.hbm, 383, rfl⟩
abbrev main_v276 : Ref sig .tc := ⟨.hbm, 384, rfl⟩
abbrev main_v277 : Ref sig .tc := ⟨.hbm, 385, rfl⟩
abbrev main_v278 : Ref sig .tc := ⟨.hbm, 386, rfl⟩
abbrev main_v279 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_cst_48 : Ref sig .tc := ⟨.hbm, 393, rfl⟩
abbrev main_v285 : Ref sig .tc := ⟨.hbm, 394, rfl⟩
abbrev main_v286 : Ref sig .tc := ⟨.hbm, 395, rfl⟩
abbrev main_cst_49 : Ref sig .tc := ⟨.hbm, 396, rfl⟩
abbrev main_v287 : Ref sig .tc := ⟨.hbm, 397, rfl⟩
abbrev main_v288 : Ref sig .tc := ⟨.hbm, 398, rfl⟩

abbrev nD : Nat := 1
abbrev τ : Topo := Topo.v7x

variable {F : FTy → Type} [FloatOps F]
-- ==== Proof.Core.lean ====
/-
  The mathematics of one mixture-of-experts layer over the reals, free of either program: the two greatest of
  eight gate logits (ties to the lower index), the renormalised pair of weights, the mixture of the experts' rows,
  and the residual layer norm; with the folds and the sort by which the two programs select.
-/
module

public import Idealize.ShloMosaic.PureOps.Ideal.Laws
public import Idealize.ShloMosaic.Lib.SortFacts

@[expose] public section

namespace Cert.Moe
open Idealize.ShloMosaic

/-! ## The words both programs write, as reals -/

theorem lit_negInf : Ideal.ofBits .f32 0xFF800000#32 = ⊥ := by
  simp [Ideal.ofBits, Ideal.ieee, -EReal.coe_mul]

theorem lit_240 : Ideal.ofBits .f32 0x43700000#32 = ((240 : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_inv2048 : Ideal.ofBits .f32 0x3A000000#32 = ((1 / 2048 : ℝ) : EReal) := by
  simp [Ideal.ofBits, Ideal.ieee, -EReal.coe_mul]; norm_num

theorem lit_three : Ideal.ofBits .f32 0x40400000#32 = ((3 : ℝ) : EReal) := by
  simp [Ideal.ofBits, Ideal.ieee, -EReal.coe_mul]; norm_num

/-- The smallest the layer norm divides by, squared: the rational nearest `1e-5` among the words of 32 bits. -/
noncomputable def epsR : ℝ := 10995116 / 1099511627776

theorem lit_eps : Ideal.ofBits .f32 0x3727C5AC#32 = (epsR : EReal) := by
  simp [Ideal.ofBits, Ideal.ieee, -EReal.coe_mul, epsR]; norm_num

theorem select_eq {α : Type} {w : Nat} (a b : BitVec w) (x y : α) :
    Scalar.select (IntOp.cmpi .eq a b) x y = if a = b then x else y := by
  by_cases h : a = b
  · simp [Scalar.select, IntOp.cmpi, h]
  · simp [Scalar.select, IntOp.cmpi, h, beq_false_of_ne h]

/-- Division of one real by another that is not zero. -/
theorem div_real (x y : ℝ) (h : y ≠ 0) : Ideal.div (x : EReal) (y : EReal) = ((x / y : ℝ) : EReal) := by
  rw [Ideal.div_coe h, ← EReal.coe_mul]; congr 1; ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The greatest of a family, ties to the lower index -/

/-- `k` is the first position of `s` at which `l` is greatest on `s`. -/
structure IsTop {n : Nat} (s : Fin n → Prop) (l : Fin n → ℝ) (k : Fin n) : Prop where
  mem : s k
  le : ∀ j, s j → l j ≤ l k
  lt : ∀ j, s j → j < k → l j < l k

theorem IsTop.unique {n : Nat} {s : Fin n → Prop} {l : Fin n → ℝ} {k k' : Fin n} (h : IsTop s l k) (h' : IsTop s l k') :
    k = k' := by
  rcases lt_trichotomy k k' with hlt | heq | hgt
  · exact absurd (h'.lt k h.mem hlt) (not_lt.mpr (h.le k' h'.mem))
  · exact heq
  · exact absurd (h.lt k' h'.mem hgt) (not_lt.mpr (h'.le k h.mem))

/-- An increasing image of the family is greatest at the same position. -/
theorem IsTop.of_strictMono {n : Nat} {s : Fin n → Prop} {l v : Fin n → ℝ} {k : Fin n}
    (hv : ∀ i j, v i < v j ↔ l i < l j) (h : IsTop s v k) : IsTop s l k :=
  ⟨h.mem, fun j hj => not_lt.mp fun hlt => absurd ((hv k j).mpr hlt) (not_lt.mpr (h.le j hj)),
    fun j hj hjk => (hv j k).mp (h.lt j hj hjk)⟩

theorem exists_isTop {n : Nat} (s : Fin n → Prop) (l : Fin n → ℝ) (hs : ∃ j, s j) : ∃ k, IsTop s l k := by
  classical
  obtain ⟨j₀, hj₀⟩ := hs
  obtain ⟨m, hm, hmax⟩ := Finset.exists_max_image (Finset.univ.filter s) l ⟨j₀, by simp [hj₀]⟩
  have hm' : s m := by simpa using hm
  have hmax' : ∀ j, s j → l j ≤ l m := fun j hj => hmax j (by simp [hj])
  obtain ⟨k, hk, hmin⟩ := Finset.exists_min_image (Finset.univ.filter fun j => s j ∧ l j = l m) id ⟨m, by simp [hm']⟩
  have hk' : s k ∧ l k = l m := by simpa using hk
  refine ⟨k, hk'.1, fun j hj => hk'.2 ▸ hmax' j hj, fun j hj hjk => lt_of_le_of_ne (hk'.2 ▸ hmax' j hj) fun he => ?_⟩
  exact absurd (hmin j (by simp [hj, he, hk'.2])) (not_le.mpr hjk)

/-- The position of the greatest logit. -/
noncomputable def top1 (l : Fin 8 → ℝ) : Fin 8 := (exists_isTop (fun _ => True) l ⟨0, trivial⟩).choose

/-- The position of the greatest of the other logits. -/
noncomputable def top2 (l : Fin 8 → ℝ) : Fin 8 :=
  (exists_isTop (fun e => e ≠ top1 l) l (exists_ne (top1 l))).choose

theorem top1_isTop (l : Fin 8 → ℝ) : IsTop (fun _ => True) l (top1 l) := (exists_isTop (fun _ => True) l ⟨0, trivial⟩).choose_spec

theorem top2_isTop (l : Fin 8 → ℝ) : IsTop (fun e => e ≠ top1 l) l (top2 l) :=
  (exists_isTop (fun e => e ≠ top1 l) l (exists_ne (top1 l))).choose_spec

theorem top2_ne (l : Fin 8 → ℝ) : top2 l ≠ top1 l := (top2_isTop l).mem

/-! ## The folds that find it -/

/-- The maximum of a family that is `⊥` off `s`. -/
theorem IsTop.fold_max {n : Nat} {s : Fin n → Prop} {l : Fin n → ℝ} {k : Fin n} (h : IsTop s l k) (f : Fin n → EReal)
    (hf : ∀ e, s e → f e = (l e : EReal)) (hf' : ∀ e, ¬ s e → f e = ⊥) :
    Finset.univ.fold max ⊥ f = (l k : EReal) := by
  refine le_antisymm ((Finset.fold_max_le _).mpr ⟨bot_le, fun e _ => ?_⟩) ((Finset.le_fold_max _).mpr (.inr ⟨k, Finset.mem_univ _, ?_⟩))
  · by_cases he : s e
    · rw [hf e he]; exact EReal.coe_le_coe_iff.mpr (h.le e he)
    · rw [hf' e he]; exact bot_le
  · rw [hf k h.mem]

theorem minsi_toInt (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- The least of the indices of the positions that hold, among eight, every other position giving 8. -/
theorem fold_minsi (c : Fin 8 → Prop) [DecidablePred c] (k : Fin 8) (hk : c k) (hlt : ∀ j, c j → k ≤ j) :
    Finset.univ.fold IntOp.minsi 2147483647#32 (fun e : Fin 8 => if c e then BitVec.ofNat 32 e.val else 8#32)
      = BitVec.ofNat 32 k.val := by
  have hto : ∀ e : Fin 8, (BitVec.ofNat 32 e.val).toInt = (e.val : Int) := by decide
  have hop : ∀ {r x y : BitVec 32}, r.toInt ≤ (IntOp.minsi x y).toInt ↔ r.toInt ≤ x.toInt ∧ r.toInt ≤ y.toInt := by
    intro r x y; rw [minsi_toInt]; exact le_min_iff
  have hop' : ∀ {r x y : BitVec 32}, (IntOp.minsi x y).toInt ≤ r.toInt ↔ x.toInt ≤ r.toInt ∨ y.toInt ≤ r.toInt := by
    intro r x y; rw [minsi_toInt]; exact min_le_iff
  apply BitVec.eq_of_toInt_eq
  apply le_antisymm
  · exact (Finset.fold_op_rel_iff_or (r := fun a b : BitVec 32 => b.toInt ≤ a.toInt) hop').mpr
      (.inr ⟨k, Finset.mem_univ _, by rw [if_pos hk]⟩)
  · refine (Finset.fold_op_rel_iff_and (r := fun a b : BitVec 32 => a.toInt ≤ b.toInt) hop).mpr ⟨?_, fun e _ => ?_⟩
    · rw [hto]; have := k.isLt; simp; omega
    · rw [hto]
      by_cases he : c e
      · rw [if_pos he, hto]; exact_mod_cast hlt e he
      · rw [if_neg he]; have := k.isLt; simp

/-! ## The stable sort that finds it -/

section sort
variable {n : Nat} (l : Fin n → ℝ) (R : Fin n → Fin n → Bool)

/-- Greater first, equal ones in index order. -/
def Lex (a b : Fin n) : Prop := l b < l a ∨ (l a = l b ∧ a < b)

variable (hR : ∀ a b, R a b = true ↔ l b < l a)
include hR

theorem insertBefore_lex (a : Fin n) (L : List (Fin n)) (ha : ∀ c ∈ L, a < c) (hL : L.Pairwise (Lex l)) :
    (insertBefore R a L).Pairwise (Lex l) := by
  induction L with
  | nil => exact List.pairwise_singleton _ _
  | cons b L ih =>
    rw [List.pairwise_cons] at hL
    unfold insertBefore
    split
    · rename_i h
      refine List.pairwise_cons.mpr ⟨fun c hc => ?_, ih (fun c hc => ha c (List.mem_cons_of_mem _ hc)) hL.2⟩
      rcases List.mem_cons.mp ((perm_insertBefore R a L).mem_iff.mp hc) with rfl | hc'
      · exact .inl ((hR b c).mp h)
      · exact hL.1 c hc'
    · rename_i h
      have hba : l b ≤ l a := not_lt.mp fun hlt => h ((hR b a).mpr hlt)
      refine List.pairwise_cons.mpr ⟨fun c hc => ?_, List.pairwise_cons.mpr hL⟩
      have hac := ha c hc
      have hcb : l c ≤ l b := by
        rcases List.mem_cons.mp hc with rfl | hc'
        · exact le_refl _
        · rcases hL.1 c hc' with hlt | ⟨heq, _⟩
          · exact hlt.le
          · exact heq.ge
      rcases lt_or_eq_of_le (hcb.trans hba) with hlt | heq
      · exact .inl hlt
      · exact .inr ⟨heq.symm, hac⟩

theorem stableSort_lex (L : List (Fin n)) (hL : L.Pairwise (· < ·)) : (stableSort R L).Pairwise (Lex l) := by
  induction L with
  | nil => exact List.Pairwise.nil
  | cons a L ih =>
    rw [List.pairwise_cons] at hL
    unfold stableSort
    exact insertBefore_lex l R hR a _ (fun c hc => hL.1 c ((perm_stableSort R L).mem_iff.mp hc)) (ih hL.2)

theorem sortedFrom_lex (i j : Fin n) (hij : i < j) : Lex l (sortedFrom R i) (sortedFrom R j) := by
  have hp : ∀ a b : Fin (sortPositions n R).length, a < b →
      Lex l ((sortPositions n R).get a) ((sortPositions n R).get b) :=
    List.pairwise_iff_get.mp (stableSort_lex l R hR (List.finRange n) (List.pairwise_lt_finRange n))
  unfold sortedFrom
  exact hp _ _ (by simp only [Fin.lt_def, Fin.val_cast]; exact hij)

omit hR in
theorem isTop_of_lex {s : Fin n → Prop} {k : Fin n} (hk : s k) (h : ∀ j, s j → j ≠ k → Lex l k j) : IsTop s l k := by
  refine ⟨hk, fun j hj => ?_, fun j hj hjk => ?_⟩
  · by_cases he : j = k
    · rw [he]
    · rcases h j hj he with hlt | ⟨heq, _⟩
      · exact hlt.le
      · exact heq.ge
  · rcases h j hj hjk.ne with hlt | ⟨_, hlt⟩
    · exact hlt
    · exact absurd hlt hjk.asymm

end sort

/-- The first two positions of the stable sort of eight, greatest first, are the two greatest. -/
theorem sortedFrom_top (l : Fin 8 → ℝ) (R : Fin 8 → Fin 8 → Bool) (hR : ∀ a b, R a b = true ↔ l b < l a) :
    sortedFrom R 0 = top1 l ∧ sortedFrom R 1 = top2 l := by
  have h1 : sortedFrom R 0 = top1 l := by
    refine IsTop.unique (isTop_of_lex l trivial fun j _ hj => ?_) (top1_isTop l)
    obtain ⟨p, rfl⟩ := sortedFrom_surjective R j
    exact sortedFrom_lex l R hR 0 p (Fin.pos_iff_ne_zero.mpr fun h => hj (by rw [h]))
  refine ⟨h1, IsTop.unique (s := fun e => e ≠ top1 l) (isTop_of_lex l ?_ fun j hj hj' => ?_) (top2_isTop l)⟩
  · rw [← h1]; exact fun h => absurd (sortedFrom_injective R h) (by decide)
  · obtain ⟨p, rfl⟩ := sortedFrom_surjective R j
    refine sortedFrom_lex l R hR 1 p ?_
    have h0 : p ≠ 0 := fun h => hj (by rw [h, h1])
    have h1' : p ≠ 1 := fun h => hj' (by rw [h])
    omega

/-! ## The layer -/

/-- The logits of the gate. -/
noncomputable def gateR (gw : Fin 8 → Fin 240 → ℝ) (h : Fin 240 → ℝ) (e : Fin 8) : ℝ := ∑ k, gw e k * h k

/-- The greater of the two renormalised weights. -/
noncomputable def w1R (l : Fin 8 → ℝ) : ℝ := 1 / (1 + Real.exp (l (top2 l) - l (top1 l)))

/-- An expert's weight: the two greatest share one, the others have none. -/
noncomputable def wtR (l : Fin 8 → ℝ) (e : Fin 8) : ℝ :=
  (if e = top1 l then w1R l else 0) + (if e = top2 l then 1 - w1R l else 0)

/-- The mixture of the experts' rows. -/
noncomputable def mixR (gw : Fin 8 → Fin 240 → ℝ) (ew : Fin 8 → Fin 240 → Fin 240 → ℝ) (h : Fin 240 → ℝ) (d : Fin 240) : ℝ :=
  ∑ e, wtR (gateR gw h) e * ∑ k, ew e d k * h k

noncomputable def meanR (o : Fin 240 → ℝ) : ℝ := (∑ d, o d) / 240

noncomputable def varR (o : Fin 240 → ℝ) : ℝ := (∑ d, (o d - meanR o) * (o d - meanR o)) / 240

/-- The row plus its layer norm. -/
noncomputable def normR (o : Fin 240 → ℝ) (d : Fin 240) : ℝ := o d + (o d - meanR o) / Real.sqrt (varR o + epsR)

noncomputable def layerR (gw : Fin 8 → Fin 240 → ℝ) (ew : Fin 8 → Fin 240 → Fin 240 → ℝ) (h : Fin 240 → ℝ) : Fin 240 → ℝ :=
  normR (mixR gw ew h)

theorem varR_eq (o : Fin 240 → ℝ) : (∑ d, o d * o d) / 240 - meanR o * meanR o = varR o := by
  have h : ∑ d, (o d - meanR o) * (o d - meanR o) = (∑ d, o d * o d) - 2 * meanR o * (∑ d, o d) + 240 * (meanR o * meanR o) := by
    rw [Finset.mul_sum, ← Finset.sum_sub_distrib,
      show (240 : ℝ) * (meanR o * meanR o) = ∑ _d : Fin 240, meanR o * meanR o by simp, ← Finset.sum_add_distrib]
    exact Finset.sum_congr rfl fun d _ => by ring
  have hs : (∑ d, o d) = 240 * meanR o := by unfold meanR; ring
  unfold varR
  rw [h, hs]; ring

theorem varR_nonneg (o : Fin 240 → ℝ) : 0 ≤ varR o :=
  div_nonneg (Finset.sum_nonneg fun d _ => mul_self_nonneg _) (by norm_num)

theorem varR_eps_pos (o : Fin 240 → ℝ) : 0 < varR o + epsR :=
  add_pos_of_nonneg_of_pos (varR_nonneg o) (by unfold epsR; norm_num)

theorem sqrt_varR_pos (o : Fin 240 → ℝ) : 0 < Real.sqrt (varR o + epsR) := Real.sqrt_pos.mpr (varR_eps_pos o)

/-- Renormalising the two greatest of a softmax gives the logistic of their logits' difference. -/
theorem softmax_pair (a b M S : ℝ) (hS : 0 < S) :
    Real.exp (a - M) / S / (Real.exp (a - M) / S + Real.exp (b - M) / S) = 1 / (1 + Real.exp (b - a)) := by
  have h1 : Real.exp (b - M) = Real.exp (a - M) * Real.exp (b - a) := by rw [← Real.exp_add]; congr 1; ring
  have ha := Real.exp_pos (a - M)
  have hb := Real.exp_pos (b - a)
  rw [h1]
  field_simp

theorem softmax_pair' (a b M S : ℝ) (hS : 0 < S) :
    Real.exp (b - M) / S / (Real.exp (a - M) / S + Real.exp (b - M) / S) = 1 - 1 / (1 + Real.exp (b - a)) := by
  have h1 : Real.exp (b - M) = Real.exp (a - M) * Real.exp (b - a) := by rw [← Real.exp_add]; congr 1; ring
  have ha := Real.exp_pos (a - M)
  have hb := Real.exp_pos (b - a)
  rw [h1]
  field_simp
  ring

end Cert.Moe
-- ==== Proof.Cycle.lean ====
/-
  The mathematics of the cycle block over the reals: the embedding of a position, the modulation of a row by three
  successive rotations, and their mean; with the literals of the pump.
-/
module

public import proofs.«01_k».proof.Proof.Core

@[expose] public section

namespace Cert.Moe
open Idealize.ShloMosaic

/-- The entry before `d`, the last before the first. -/
def prev (d : Fin 240) : Fin 240 := ⟨(d.val + 239) % 240, Nat.mod_lt _ (by decide)⟩

theorem prev_val (d : Fin 240) : (prev d).val = if d.val < 1 then 239 else d.val - 1 := by
  have := d.isLt
  unfold prev
  split
  · show (d.val + 239) % 240 = _; omega
  · show (d.val + 239) % 240 = _; omega

/-- A column moved down by one, as the program joins it from its last row and the rest. -/
theorem prev_if {α : Type} (f : Fin 240 → α) (d : Fin 240) :
    (if h : d.val < 1 then f ⟨239 + d.val, by omega⟩ else f ⟨d.val - 1, by omega⟩) = f (prev d) := by
  have hp := prev_val d
  split
  · next h => exact congrArg f (Fin.ext (by rw [hp, if_pos h]; show 239 + d.val = 239; omega))
  · next h => exact congrArg f (Fin.ext (by rw [hp, if_neg h]))

/-- A position's root. -/
def root (t : Fin 2048) : Fin 240 := ⟨t.val % 240, Nat.mod_lt _ (by decide)⟩

/-- A feature's row of the projection. -/
def low (d : Fin 240) : Fin 80 := ⟨d.val % 80, Nat.mod_lt _ (by decide)⟩

noncomputable def embedR (rt : Fin 240 → Fin 8 → ℝ) (pj : Fin 80 → Fin 8 → ℝ) (t : Fin 2048) (d : Fin 240) : ℝ :=
  ∑ j, rt (root t) j * pj (low d) j

noncomputable def rateR : ℝ := 5059889 / 134217728

noncomputable def ampR : ℝ := 13421773 / 16777216

theorem lit_rate : Ideal.ofBits .f32 0x3D1A6A62#32 = (rateR : EReal) := by
  simp [Ideal.ofBits, Ideal.ieee, -EReal.coe_mul, rateR]; norm_num

theorem lit_amp : Ideal.ofBits .f32 0x3F4CCCCD#32 = (ampR : EReal) := by
  simp [Ideal.ofBits, Ideal.ieee, -EReal.coe_mul, ampR]; norm_num

/-- The pump at a step. -/
noncomputable def pumpR (step : BitVec 32) : ℝ := ampR * Real.sin ((step.toInt : ℝ) * rateR)

/-- The first modulation of a feature. -/
noncomputable def modR (p : ℝ) (em : Fin 240 → ℝ) (d : Fin 240) : ℝ := Real.cos (em d) + p

/-- The mean of a row's three rotations. -/
noncomputable def cycleR (p : ℝ) (em x : Fin 240 → ℝ) (d : Fin 240) : ℝ :=
  (x d * modR p em d + x (prev d) * modR p em (prev d) * Real.sin (em d)
    + x (prev (prev d)) * modR p em (prev (prev d)) * Real.sin (em (prev d)) * Real.cos (em d)) / 3

/-- A sum against one entry's indicator. -/
theorem sum_hot {n : Nat} (f : Fin n → EReal) (k : Fin n) : ∑ i, (if i = k then (1 : EReal) else 0) * f i = f k := by
  rw [Finset.sum_eq_single k (fun i _ hi => by rw [if_neg hi, zero_mul]) (fun h => absurd (Finset.mem_univ k) h), if_pos rfl, one_mul]

end Cert.Moe
-- ==== Proof.KernelLayer.lean ====
/-
  One layer of the kernel, as an operation on a block: the gate's logits, the two greatest by maximum and least
  index, the weights, the eight experts' mixture and the residual norm, named once for all four layers; and the head.
-/
module

public import proofs.«01_k».proof.Proof.Gen.KernelIdeal.Skeleton

@[expose] public section

noncomputable section

namespace Cert.KernelIdeal.Layer

open Idealize.ShloMosaic Idealize.SL.Sem Cert.KernelIdeal.Gen

variable {F : FTy → Type} [FloatOps F] [Named F]

def kIota : IVec S8x2048 32 := iota .tc S8x2048 32 [0] iota_S8x2048_d0_w32

/-- The gate's logits, one column to a position. -/
def kGate (g : Vec F S1x8x240 .bf16) (h : FVec F S240x2048 .bf16) : FVec F S8x2048 .f32 :=
  matmul dot_S8x240_S240x2048_S8x2048_1_0_0_1_n_n none (shapeCast S8x240 g shapeCasts_S1x8x240_S8x240) h
    (constant S8x2048 .f32 0x00000000#32)

/-- A column's greatest entry. -/
def kMax (l : FVec F S8x2048 .f32) : FVec F S1x2048 .f32 :=
  shapeCast S1x2048 (multiReduction .maximumf [0] S2048 l 0xFF800000#32 reduces_S8x2048_S2048 (.inl rfl) rfl)
    shapeCasts_S2048_S1x2048

/-- The least row at which a column's greatest entry stands. -/
def kFirst (l : FVec F S8x2048 .f32) : IVec S1x2048 32 :=
  shapeCast S1x2048 (multiReductionI .minsi [0] S2048
    (select (cmpf .oeq l (broadcastTo S8x2048 (kMax l) broadcasts_S1x2048_S8x2048)) kIota (broadcast S8x2048 8#32))
    2147483647#32 reduces_S8x2048_S2048 rfl) shapeCasts_S2048_S1x2048

/-- The column with one row put out. -/
def kMask (i : IVec S1x2048 32) (l : FVec F S8x2048 .f32) : FVec F S8x2048 .f32 :=
  select (cmpi .eq kIota (broadcastTo S8x2048 i broadcasts_S1x2048_S8x2048))
    (broadcast S8x2048 (Named.named κ "mask" 0xFF61B1E6#32)) l

/-- The greater weight. -/
def kW (m1 m2 : FVec F S1x2048 .f32) : FVec F S1x2048 .f32 :=
  divf (broadcast S1x2048 (Scalar.ofBits .f32 0x3F800000#32))
    (addf (broadcast S1x2048 (Scalar.ofBits .f32 0x3F800000#32)) (exp (subf m2 m1)))

/-- The eight experts' rows, one below the other. -/
def kExpert (ew : Vec F S1x1920x240 .bf16) (h : FVec F S240x2048 .bf16) : FVec F S1920x2048 .f32 :=
  matmul dot_S1920x240_S240x2048_S1920x2048_1_0_0_1_n_n none (shapeCast S1920x240 ew shapeCasts_S1x1920x240_S1920x240) h
    (constant S1920x2048 .f32 0x00000000#32)

/-- One expert added to the mixture. -/
def kStep (p : FVec F S1920x2048 .f32) (i1 i2 : IVec S1x2048 32) (w1 w2 : FVec F S1x2048 .f32) (e : BitVec 32)
    (off : Fin 2 → Nat) (hs : S1920x2048.Slices off S240x2048) (acc : FVec F S240x2048 .f32) : FVec F S240x2048 .f32 :=
  addf acc (mulf (extractStridedSlice S240x2048 off p hs) (broadcastTo S240x2048
    (addf (select (cmpi .eq i1 (broadcast S1x2048 e)) w1 (broadcast S1x2048 (Scalar.ofBits .f32 0x00000000#32)))
      (select (cmpi .eq i2 (broadcast S1x2048 e)) w2 (broadcast S1x2048 (Scalar.ofBits .f32 0x00000000#32))))
    broadcasts_S1x2048_S240x2048))

/-- The eight experts' mixture. -/
def kMix (p : FVec F S1920x2048 .f32) (i1 i2 : IVec S1x2048 32) (w1 w2 : FVec F S1x2048 .f32) : FVec F S240x2048 .f32 :=
  kStep p i1 i2 w1 w2 7#32 ![1680, 0] slices_S1920x2048_o1680_0_S240x2048 <|
  kStep p i1 i2 w1 w2 6#32 ![1440, 0] slices_S1920x2048_o1440_0_S240x2048 <|
  kStep p i1 i2 w1 w2 5#32 ![1200, 0] slices_S1920x2048_o1200_0_S240x2048 <|
  kStep p i1 i2 w1 w2 4#32 ![960, 0] slices_S1920x2048_o960_0_S240x2048 <|
  kStep p i1 i2 w1 w2 3#32 ![720, 0] slices_S1920x2048_o720_0_S240x2048 <|
  kStep p i1 i2 w1 w2 2#32 ![480, 0] slices_S1920x2048_o480_0_S240x2048 <|
  kStep p i1 i2 w1 w2 1#32 ![240, 0] slices_S1920x2048_o240_0_S240x2048 <|
  kStep p i1 i2 w1 w2 0#32 ![0, 0] slices_S1920x2048_o0_0_S240x2048 <|
  broadcast S240x2048 (Scalar.ofBits .f32 0x00000000#32)

/-- A column's mean. -/
def kMean (o : FVec F S240x2048 .f32) : FVec F S1x2048 .f32 :=
  divf (shapeCast S1x2048 (multiReduction .add [0] S2048 o 0x00000000#32 reduces_S240x2048_S2048 (.inl rfl) rfl)
    shapeCasts_S2048_S1x2048) (broadcast S1x2048 (Scalar.ofBits .f32 0x43700000#32))

/-- The block plus its norm. -/
def kNorm (o : FVec F S240x2048 .f32) : FVec F S240x2048 .f32 :=
  addf o (divf (subf o (broadcastTo S240x2048 (kMean o) broadcasts_S1x2048_S240x2048))
    (broadcastTo S240x2048 (sqrt (addf (subf (kMean (mulf o o)) (mulf (kMean o) (kMean o)))
      (broadcast S1x2048 (Scalar.ofBits .f32 0x3727C5AC#32)))) broadcasts_S1x2048_S240x2048))

/-- The mixture of a block, from its logits. -/
def kMoe (l : FVec F S8x2048 .f32) (p : FVec F S1920x2048 .f32) : FVec F S240x2048 .f32 :=
  kMix p (kFirst l) (kFirst (kMask (kFirst l) l)) (kW (kMax l) (kMax (kMask (kFirst l) l)))
    (subf (broadcast S1x2048 (Scalar.ofBits .f32 0x3F800000#32)) (kW (kMax l) (kMax (kMask (kFirst l) l))))

/-- One layer. -/
def kLayer (g : Vec F S1x8x240 .bf16) (ew : Vec F S1x1920x240 .bf16) (h : FVec F S240x2048 .bf16) : FVec F S240x2048 .f32 :=
  kNorm (kMoe (kGate g h) (kExpert ew h))

/-- A layer's block as the next layer reads it. -/
def kNext (g : Vec F S1x8x240 .bf16) (ew : Vec F S1x1920x240 .bf16) (h : FVec F S240x2048 .bf16) : FVec F S240x2048 .bf16 :=
  truncf .bf16 (kLayer g ew h) bitsLt_bf16_f32

/-- The head of a block. -/
def kHead (h : FVec F S240x2048 .f32) (hw : Vec F S1x240 .f32) : FVec F S1x1x128 .f32 :=
  k0_pay1 h (extractStridedSlice S240x1024 ![0, 0] h slices_S240x2048_o0_0_S240x1024) hw

end Cert.KernelIdeal.Layer
-- ==== Proof.KernelCycle.lean ====
/-
  The kernel's set-up and its first block at one column: the selector rows, the embedding of a position, the three
  modulations, and the mean of a column's three rotations.
-/
module

public import proofs.«01_k».proof.Proof.Cycle
public import proofs.«01_k».proof.Proof.KernelLayer
public import Idealize.ShloMosaic.Lib.Pointwise
public import Idealize.ShloMosaic.PureOps.Ideal.Laws

@[expose] public section

noncomputable section

namespace Cert.KernelIdeal.Layer

open Idealize.ShloMosaic Idealize.SL.Sem Cert.KernelIdeal.Gen Cert.Moe

/-- The remainder of the kernel's words that is never negative, as its program spells it. -/
def fmod (x : BitVec 32) : BitVec 32 :=
  Scalar.select (IntOp.andi (IntOp.xori
      (IntOp.cmpi .slt (IntOp.remsi .vector x (Scalar.select (Scalar.cmpi .eq 240#32 0#32) 1#32 240#32)) 0#32)
      (Scalar.cmpi .slt (Scalar.select (Scalar.cmpi .eq 240#32 0#32) 1#32 240#32) 0#32))
    (IntOp.cmpi .ne (IntOp.remsi .vector x (Scalar.select (Scalar.cmpi .eq 240#32 0#32) 1#32 240#32)) 0#32))
    (IntOp.addi (IntOp.remsi .vector x (Scalar.select (Scalar.cmpi .eq 240#32 0#32) 1#32 240#32))
      (Scalar.select (Scalar.cmpi .eq 240#32 0#32) 1#32 240#32))
    (IntOp.remsi .vector x (Scalar.select (Scalar.cmpi .eq 240#32 0#32) 1#32 240#32))

/-- The quotient of the kernel's words, rounded down. -/
def fdiv (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 240#32 0#32)) (Scalar.extui (Scalar.cmpi .slt 240#32 0#32))))
      (IntOp.cmpi .ne (IntOp.remsi .vector x 240#32) 0#32))
    (IntOp.subi (IntOp.divsi .vector x 240#32) 1#32)
    (IntOp.divsi .vector x 240#32)

/-- The column a row of the selector picks: row `240 q + d` picks `d - q`. -/
def pickWord (x : BitVec 32) : BitVec 32 := fmod (IntOp.addi (IntOp.subi (fmod x) (fdiv x)) 240#32)

def pick (r : Fin 720) : Fin 240 := ⟨(r.val % 240 + 240 - r.val / 240) % 240, Nat.mod_lt _ (by decide)⟩

theorem fmod_eq : ∀ t : Fin 2048, fmod (BitVec.ofNat 32 t.val) = BitVec.ofNat 32 (root t).val := by decide +kernel

theorem pick_eq : ∀ r : Fin 720, pickWord (BitVec.ofNat 32 r.val) = BitVec.ofNat 32 (pick r).val := by decide +kernel

theorem pick_0 : ∀ d : Fin 240, pick ⟨d.val, by omega⟩ = d := by decide +kernel

theorem pick_1 : ∀ d : Fin 240, pick ⟨240 + d.val, by omega⟩ = prev d := by decide +kernel

theorem pick_2 : ∀ d : Fin 240, pick ⟨480 + d.val, by omega⟩ = prev (prev d) := by decide +kernel

theorem ofNat_inj240 (i k : Fin 240) : BitVec.ofNat 32 i.val = BitVec.ofNat 32 k.val ↔ i = k := by
  refine ⟨fun h => ?_, fun h => h ▸ rfl⟩
  have h2 := congrArg BitVec.toNat h
  simp only [BitVec.toNat_ofNat] at h2
  exact Fin.ext (by omega)

/-- The three selectors, one above the other. -/
def kSel {F : FTy → Type} [FloatOps F] : FVec F S720x240 .bf16 :=
  k0_pay3 (iota .tc S720x240 32 [1] iota_S720x240_d1_w32) k0_pay2 240#32

theorem sel_apply (r : Fin 720) (k : Fin 240) :
    kSel (F := Ideal) (ix2 r k)
      = if k = pick r then 1 else 0 := by
  pointwise [kSel, k0_pay3, k0_pay2]
  rw [select_eq]
  have e : (BitVec.ofNat 32 k.val = pickWord (BitVec.ofNat 32 r.val)) = (k = pick r) := by
    rw [pick_eq]; exact propext (ofNat_inj240 k (pick r))
  exact if_congr (Iff.of_eq e) rfl rfl

variable (t : Fin 2048)

theorem hot_apply (rt : Vec Ideal S240x8 .f32) (j : Fin 8) :
    (∑ k : Fin 240, Scalar.select (IntOp.cmpi .eq (BitVec.ofNat 32 k.val) (fmod (BitVec.ofNat 32 t.val))) (rt (ix2 k j)) (0 : EReal))
      = rt (ix2 (root t) j) := by
  refine (Finset.sum_congr rfl fun k _ => ?_).trans (sum_hot (fun k => rt (ix2 k j)) (root t))
  rw [select_eq, fmod_eq]
  rw [if_congr (ofNat_inj240 k (root t)) rfl rfl]
  by_cases h : k = root t
  · rw [if_pos h, if_pos h, one_mul]
  · rw [if_neg h, if_neg h, zero_mul]

theorem emb_apply (rt : Vec Ideal S240x8 .f32) (pj : Vec Ideal S80x8 .f32) (d : Fin 240) :
    k0_pay42 rt pj (ix2 d t) = ∑ j : Fin 8, pj (ix2 (low d) j) * rt (ix2 (root t) j) := by
  have hd := d.isLt
  have key : ∀ (i : Fin 80), i = low d → (∑ j : Fin 8, pj (ix2 i j) * ∑ k : Fin 240,
      Scalar.select (IntOp.cmpi .eq (BitVec.ofNat 32 k.val) (fmod (BitVec.ofNat 32 t.val))) (rt (ix2 k j)) (0 : EReal))
        = ∑ j : Fin 8, pj (ix2 (low d) j) * rt (ix2 (root t) j) := by
    rintro i rfl
    exact Finset.sum_congr rfl fun j _ => by rw [hot_apply]
  pointwise [k0_pay42]
  split
  · exact key _ (Fin.ext (by unfold low; show d.val = d.val % 80; omega))
  · split
    · exact key _ (Fin.ext (by unfold low; show d.val - 80 = d.val % 80; omega))
    · exact key _ (Fin.ext (by unfold low; show d.val - 80 - 80 = d.val % 80; omega))

theorem emb_real (rt : Vec Ideal S240x8 .f32) (pj : Vec Ideal S80x8 .f32) (rr : Fin 240 → Fin 8 → ℝ) (pr : Fin 80 → Fin 8 → ℝ)
    (hr : ∀ i j, rt (ix2 i j) = (rr i j : EReal)) (hp : ∀ i j, pj (ix2 i j) = (pr i j : EReal)) (d : Fin 240) :
    k0_pay42 rt pj (ix2 d t) = (embedR rr pr t d : EReal) := by
  rw [emb_apply]
  unfold embedR
  rw [coe_sum]
  refine Finset.sum_congr rfl fun j _ => ?_
  rw [hr, hp, ← EReal.coe_mul, mul_comm]

theorem a_apply (c : FVec Ideal S240x2048 .f32) (st : Elt Ideal .f32) (d : Fin 240) :
    k0_pay45 c st (ix2 d t) = c (ix2 d t) + Ideal.ofBits .f32 0x3F4CCCCD#32 * Ideal.sin (st * Ideal.ofBits .f32 0x3D1A6A62#32) := by
  pointwise [k0_pay45]

theorem roll_apply (c : FVec Ideal S240x2048 .f32) (st : Elt Ideal .f32) (d : Fin 240) :
    k0_pay46 c st (ix2 d t) = k0_pay45 c st (ix2 (prev d) t) := by
  pointwise [k0_pay46]
  exact prev_if (fun k => k0_pay45 c st (ix2 k t)) d

theorem a0_apply (c : FVec Ideal S240x2048 .f32) (st : Elt Ideal .f32) (d : Fin 240) :
    k0_pay47 c st (ix2 d t) = k0_pay45 c st (ix2 d t) := by
  pointwise [k0_pay47]

theorem a1_apply (em c : FVec Ideal S240x2048 .f32) (st : Elt Ideal .f32) (d : Fin 240) :
    k0_pay48 em c st (ix2 d t) = Ideal.sin (em (ix2 d t)) * k0_pay45 c st (ix2 (prev d) t) := by
  pointwise [k0_pay48, k0_pay44]
  rw [roll_apply]

theorem a2_apply (em c : FVec Ideal S240x2048 .f32) (st : Elt Ideal .f32) (d : Fin 240) :
    k0_pay49 em c st (ix2 d t)
      = c (ix2 d t) * Ideal.sin (em (ix2 (prev d) t)) * k0_pay45 c st (ix2 (prev (prev d)) t) := by
  pointwise [k0_pay49, k0_pay44]
  refine congrArg₂ (· * ·) (congrArg (c (ix2 d t) * ·) ?_) ?_
  · exact prev_if (fun k => Ideal.sin (em (ix2 k t))) d
  · exact (prev_if (fun k => k0_pay46 c st (ix2 k t)) d).trans (roll_apply t c st (prev d))

theorem third_eq : (Named.named κ "third" 0x3EAAAAAB#32 : Ideal .f32) = ((1 / 3 : ℝ) : EReal) := by
  refine (IdealRules.named_const.ideal_named_scalar _ _ _ _ rfl).trans ?_
  norm_num

theorem h0_apply (v4 : Vec Ideal S1x2048x240 .f32) (v8 v11 v15 : Vec Ideal S240x2048 .f32) (d : Fin 240) :
    k0_pay50 kSel v4 v8 v11 v15 (ix2 d t)
      = (v8 (ix2 d t) * v4 (ix3 0 t d) + v11 (ix2 d t) * v4 (ix3 0 t (prev d))
          + v15 (ix2 d t) * v4 (ix3 0 t (prev (prev d)))) * ((1 / 3 : ℝ) : EReal) := by
  have key (r : Fin 720) : (∑ k : Fin 240, kSel (F := Ideal) (ix2 r k)
      * v4 (ix3 0 t k)) = v4 (ix3 0 t (pick r)) :=
    (Finset.sum_congr rfl fun k _ => by rw [sel_apply]).trans (sum_hot (fun k => v4 (ix3 0 t k)) (pick r))
  pointwise [k0_pay50]
  rw [third_eq]
  refine congrArg (· * ((1 / 3 : ℝ) : EReal)) (congrArg₂ (· + ·) (congrArg₂ (· + ·) ?_ ?_) ?_)
  · exact congrArg (v8 (ix2 d t) * ·) ((key _).trans (congrArg (fun k => v4 (ix3 0 t k)) (pick_0 d)))
  · exact congrArg (v11 (ix2 d t) * ·) ((key _).trans (congrArg (fun k => v4 (ix3 0 t k)) (pick_1 d)))
  · exact congrArg (v15 (ix2 d t) * ·) ((key _).trans (congrArg (fun k => v4 (ix3 0 t k)) (pick_2 d)))

/-- The kernel's first block, from its inputs. -/
def kFront {F : FTy → Type} [FloatOps F] [Named F] (st : Elt F .f32) (x : Vec F S1x2048x240 .f32) (rt : Vec F S240x8 .f32) (pj : Vec F S80x8 .f32) :
    FVec F S240x2048 .bf16 :=
  k0_pay50 kSel x (k0_pay47 (k0_pay43 rt pj) st)
    (k0_pay48 (k0_pay42 rt pj) (k0_pay43 rt pj) st) (k0_pay49 (k0_pay42 rt pj) (k0_pay43 rt pj) st)

theorem kFront_real (step : BitVec 32) (st : Elt Ideal .f32) (hst : st = ((step.toInt : ℝ) : EReal)) (x : Vec Ideal S1x2048x240 .f32)
    (rt : Vec Ideal S240x8 .f32) (pj : Vec Ideal S80x8 .f32) (xr : Fin 240 → ℝ) (rr : Fin 240 → Fin 8 → ℝ) (pr : Fin 80 → Fin 8 → ℝ)
    (hx : ∀ k, x (ix3 0 t k) = (xr k : EReal)) (hr : ∀ i j, rt (ix2 i j) = (rr i j : EReal))
    (hp : ∀ i j, pj (ix2 i j) = (pr i j : EReal)) (d : Fin 240) :
    kFront st x rt pj (ix2 d t) = (cycleR (pumpR step) (embedR rr pr t) xr d : EReal) := by
  have hem (k : Fin 240) := emb_real t rt pj rr pr hr hp k
  have hco (k : Fin 240) : k0_pay43 rt pj (ix2 k t) = (Real.cos (embedR rr pr t k) : EReal) :=
    (congrArg Ideal.cos (hem k)).trans (Ideal.cos_coe _)
  have ha (k : Fin 240) : k0_pay45 (k0_pay43 rt pj) st (ix2 k t) = (modR (pumpR step) (embedR rr pr t) k : EReal) := by
    rw [a_apply, hco, hst, lit_rate, lit_amp, ← EReal.coe_mul, Ideal.sin_coe, ← EReal.coe_mul, ← EReal.coe_add]
    rfl
  unfold kFront
  rw [h0_apply, a0_apply, a1_apply, a2_apply, ha, ha, ha, hem, hem, hco, Ideal.sin_coe, Ideal.sin_coe, hx, hx, hx]
  simp only [← EReal.coe_mul, ← EReal.coe_add]
  refine congrArg Real.toEReal ?_
  unfold cycleR
  ring

end Cert.KernelIdeal.Layer
-- ==== Proof.KernelOut.lean ====
module
public import proofs.«01_k».proof.Proof.KernelCycle
public import proofs.«01_k».proof.Proof.Gen.KernelIdeal.Frame
public import Idealize.ShloMosaic.Lib.Pipeline.Value
public import Idealize.ShloMosaic.Lib.Pipeline.ValueKit.Basic
@[expose] public section
noncomputable section
namespace Cert.KernelIdeal.Layer
open Cert.KernelIdeal Cert.KernelIdeal.Gen Idealize.ShloMosaic Idealize.ShloMosaic.TcCoe Idealize.SL.Sem
variable {F : FTy → Type} [FloatOps F] [Named F]

def kG (l : Nat) (inb : ∀ a, (![l, 0, 0] : Fin 3 → Nat) a + S1x8x240.size a ≤ S4x8x240.size a) (w : Vec F S4x8x240 .bf16) : Vec F S1x8x240 .bf16 :=
  View.ld w (Rect.unit (s := S4x8x240) ![l, 0, 0] S1x8x240.size inb)
def kE (l : Nat) (inb : ∀ a, (![l, 0, 0] : Fin 3 → Nat) a + S1x1920x240.size a ≤ S4x1920x240.size a) (w : Vec F S4x1920x240 .bf16) : Vec F S1x1920x240 .bf16 :=
  View.ld w (Rect.unit (s := S4x1920x240) ![l, 0, 0] S1x1920x240.size inb)

def kBody (sel : Vec F S720x240 .bf16) (ew : Vec F S4x1920x240 .bf16) (g : Vec F S4x8x240 .bf16) (a0 a1 a2 : Vec F S240x2048 .f32)
    (x : Vec F S1x2048x240 .f32) (hw : Vec F S1x240 .f32) : FVec F S1x1x128 .f32 :=
  kHead (kLayer (kG 3 (by decide) g) (kE 3 (by decide) ew) (kNext (kG 2 (by decide) g) (kE 2 (by decide) ew)
    (kNext (kG 1 (by decide) g) (kE 1 (by decide) ew) (kNext (kG 0 (by decide) g) (kE 0 (by decide) ew) (k0_pay50 sel x a0 a1 a2))))) hw

/-- a covered load is the part of the written contents under its rectangle -/
theorem readCov_ld {sg : RefSig} {κ : Kind} {sp : Space} {s : Shape} {e : EltTy} {Val : EltTy → Type} [∀ e, Nonempty (Val e)]
    (v : View sg κ sp s e) (L : List (View.Piece Val s e)) (r : Rect s) : v.readCov L r.toLoadRect = View.ld (View.canon L) r :=
  View.readCov_eq_canon' v L r.toLoadRect

variable (c : Dev nD) (i : grid0.Coords) (arg1 : Memref sig .tc .smem S1x1 .f32) (harg1 : arg1.IsWhole) (arg2 : Memref sig .tc .vmem S1x2048x240 .f32) (harg2 : arg2.IsWhole) (arg3 : Memref sig .tc .vmem S240x8 .f32) (harg3 : arg3.IsWhole) (arg4 : Memref sig .tc .vmem S80x8 .f32) (harg4 : arg4.IsWhole) (arg5 : Memref sig .tc .vmem S4x8x240 .f32) (harg5 : arg5.IsWhole) (arg6 : Memref sig .tc .vmem S4x8x240x240 .f32) (harg6 : arg6.IsWhole) (arg7 : Memref sig .tc .vmem S1x240 .f32) (harg7 : arg7.IsWhole) (arg8 : Memref sig .tc .vmem S1x1x128 .f32) (harg8 : arg8.IsWhole) (arg9 : Memref sig .tc .vmem S720x240 .bf16) (harg9 : arg9.IsWhole) (arg10 : Memref sig .tc .vmem S4x1920x240 .bf16) (harg10 : arg10.IsWhole) (arg11 : Memref sig .tc .vmem S4x8x240 .bf16) (harg11 : arg11.IsWhole) (arg12 : Memref sig .tc .vmem S240x2048 .f32) (harg12 : arg12.IsWhole) (arg13 : Memref sig .tc .vmem S240x2048 .f32) (harg13 : arg13.IsWhole) (arg14 : Memref sig .tc .vmem S240x2048 .f32) (harg14 : arg14.IsWhole) (hc0 : cond0_0 i)
    (x0 : Vec F S1x1 .f32) (x1 : Vec F S1x2048x240 .f32) (x2 : Vec F S240x8 .f32) (x3 : Vec F S80x8 .f32) (x4 : Vec F S4x8x240 .f32) (x5 : Vec F S4x8x240x240 .f32) (x6 : Vec F S1x240 .f32)

/-- what the first point leaves in its output block, from the six scratch lists it has written -/
theorem out_A : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6
    = kBody (View.canon kernelRun0_A.sl.HS0_1) (View.canon (kernelRun0_A.sl.HS1_32 c arg6 harg6 x5))
      (View.canon (kernelRun0_A.sl.HS2_1 c arg5 harg5 x4))
      (View.canon (kernelRun0_A.sl.HS3_1 c arg1 harg1 arg3 harg3 arg4 harg4 x0 x2 x3))
      (View.canon (kernelRun0_A.sl.HS4_1 c arg1 harg1 arg3 harg3 arg4 harg4 x0 x2 x3))
      (View.canon (kernelRun0_A.sl.HS5_1 c arg1 harg1 arg3 harg3 arg4 harg4 x0 x2 x3)) x1 x6 := by
  have s0 : kernelRun0_A.sl.v3 c arg9 = View.canon (kernelRun0_A.sl.HS0_1 (F := F)) :=
    (readCov_ld _ _ _).trans (View.ld_unit_lit (S := S720x240) (off := ![0, 0]) _ _ (by decide))
  have a0 : kernelRun0_A.sl.v8 c arg1 harg1 arg3 harg3 arg4 harg4 arg12 x0 x2 x3 = View.canon (kernelRun0_A.sl.HS3_1 c arg1 harg1 arg3 harg3 arg4 harg4 x0 x2 x3) :=
    (readCov_ld _ _ _).trans (View.ld_unit_lit (S := S240x2048) (off := ![0, 0]) _ _ (by decide))
  have a1 : kernelRun0_A.sl.v11 c arg1 harg1 arg3 harg3 arg4 harg4 arg13 x0 x2 x3 = View.canon (kernelRun0_A.sl.HS4_1 c arg1 harg1 arg3 harg3 arg4 harg4 x0 x2 x3) :=
    (readCov_ld _ _ _).trans (View.ld_unit_lit (S := S240x2048) (off := ![0, 0]) _ _ (by decide))
  have a2 : kernelRun0_A.sl.v15 c arg1 harg1 arg3 harg3 arg4 harg4 arg14 x0 x2 x3 = View.canon (kernelRun0_A.sl.HS5_1 c arg1 harg1 arg3 harg3 arg4 harg4 x0 x2 x3) :=
    (readCov_ld _ _ _).trans (View.ld_unit_lit (S := S240x2048) (off := ![0, 0]) _ _ (by decide))
  have g0 : kernelRun0_A.sl.v23 c arg5 harg5 arg11 x4 = kG 0 (by decide) (View.canon (kernelRun0_A.sl.HS2_1 c arg5 harg5 x4)) := by
    unfold kernelRun0_A.sl.v23 kG; exact readCov_ld _ _ _
  have g1 : kernelRun0_A.sl.v182 c arg5 harg5 arg11 x4 = kG 1 (by decide) (View.canon (kernelRun0_A.sl.HS2_1 c arg5 harg5 x4)) := by
    unfold kernelRun0_A.sl.v182 kG; exact readCov_ld _ _ _
  have g2 : kernelRun0_A.sl.v341 c arg5 harg5 arg11 x4 = kG 2 (by decide) (View.canon (kernelRun0_A.sl.HS2_1 c arg5 harg5 x4)) := by
    unfold kernelRun0_A.sl.v341 kG; exact readCov_ld _ _ _
  have g3 : kernelRun0_A.sl.v500 c arg5 harg5 arg11 x4 = kG 3 (by decide) (View.canon (kernelRun0_A.sl.HS2_1 c arg5 harg5 x4)) := by
    unfold kernelRun0_A.sl.v500 kG; exact readCov_ld _ _ _
  have e0 : kernelRun0_A.sl.v54 c arg6 harg6 arg10 x5 = kE 0 (by decide) (View.canon (kernelRun0_A.sl.HS1_32 c arg6 harg6 x5)) := by
    unfold kernelRun0_A.sl.v54 kE; exact readCov_ld _ _ _
  have e1 : kernelRun0_A.sl.v213 c arg6 harg6 arg10 x5 = kE 1 (by decide) (View.canon (kernelRun0_A.sl.HS1_32 c arg6 harg6 x5)) := by
    unfold kernelRun0_A.sl.v213 kE; exact readCov_ld _ _ _
  have e2 : kernelRun0_A.sl.v372 c arg6 harg6 arg10 x5 = kE 2 (by decide) (View.canon (kernelRun0_A.sl.HS1_32 c arg6 harg6 x5)) := by
    unfold kernelRun0_A.sl.v372 kE; exact readCov_ld _ _ _
  have e3 : kernelRun0_A.sl.v531 c arg6 harg6 arg10 x5 = kE 3 (by decide) (View.canon (kernelRun0_A.sl.HS1_32 c arg6 harg6 x5)) := by
    unfold kernelRun0_A.sl.v531 kE; exact readCov_ld _ _ _
  have xx : View.readAt (Elt F) arg2.view (Rect.unit ![0, 0, 0] S1x2048x240.size inb_S1x2048x240_S1x2048x240_0_0_0).toLoadRect (harg2.unread x1) = x1 := by
    rw [View.readAt_eq_ld, harg2.read_unread]
    exact View.ld_unit_lit (S := S1x2048x240) (off := ![0, 0, 0]) _ x1 (by decide)
  have hh : View.readAt (Elt F) arg7.view (Rect.unit ![0, 0] S1x240.size inb_S1x240_S1x240_0_0).toLoadRect (harg7.unread x6) = x6 := by
    rw [View.readAt_eq_ld, harg7.read_unread]
    exact View.ld_unit_lit (S := S1x240) (off := ![0, 0]) _ x6 (by decide)
  unfold out0_A_7
  rw [View.read_writes_junk_eq_canon]
  unfold kernelRun0_A
  dsimp only
  refine (View.canon_unit_zero (by funext a; revert a; decide) _ _).trans ?_
  rw [kBody, ← s0, ← a0, ← a1, ← a2, ← g0, ← g1, ← g2, ← g3, ← e0, ← e1, ← e2, ← e3]
  refine Eq.trans ?_ (congrArg₂ (fun a b => kHead (kLayer (kernelRun0_A.sl.v500 c arg5 harg5 arg11 x4) (kernelRun0_A.sl.v531 c arg6 harg6 arg10 x5)
    (kNext (kernelRun0_A.sl.v341 c arg5 harg5 arg11 x4) (kernelRun0_A.sl.v372 c arg6 harg6 arg10 x5)
    (kNext (kernelRun0_A.sl.v182 c arg5 harg5 arg11 x4) (kernelRun0_A.sl.v213 c arg6 harg6 arg10 x5)
    (kNext (kernelRun0_A.sl.v23 c arg5 harg5 arg11 x4) (kernelRun0_A.sl.v54 c arg6 harg6 arg10 x5)
    (k0_pay50 (kernelRun0_A.sl.v3 c arg9) a (kernelRun0_A.sl.v8 c arg1 harg1 arg3 harg3 arg4 harg4 arg12 x0 x2 x3)
      (kernelRun0_A.sl.v11 c arg1 harg1 arg3 harg3 arg4 harg4 arg13 x0 x2 x3) (kernelRun0_A.sl.v15 c arg1 harg1 arg3 harg3 arg4 harg4 arg14 x0 x2 x3)))))) b) xx hh)
  rfl

variable
  (hc1 : ¬cond0_0 i) (xs0 : Vec F S720x240 .bf16) (xs1 : Vec F S4x1920x240 .bf16) (xs2 : Vec F S4x8x240 .bf16) (xs3 : Vec F S240x2048 .f32) (xs4 : Vec F S240x2048 .f32) (xs5 : Vec F S240x2048 .f32)

set_option maxRecDepth 4000 in
/-- what a later point leaves in its output block, from the scratch contents it is given -/
theorem out_B : out0_B_7 c i arg1 harg1 arg2 harg2 arg3 harg3 arg4 harg4 arg5 harg5 arg6 harg6 arg7 harg7 arg8 harg8 arg9 harg9 arg10 harg10 arg11 harg11 arg12 harg12 arg13 harg13 arg14 harg14 hc1 x0 x1 x2 x3 x4 x5 x6 xs0 xs1 xs2 xs3 xs4 xs5 = kBody xs0 xs1 xs2 xs3 xs4 xs5 x1 x6 := by
  unfold out0_B_7
  rw [View.read_writes_junk_eq_canon]
  unfold kernelRun0_B
  dsimp only
  refine (View.canon_unit_zero (by funext a; revert a; decide) _ _).trans ?_
  sl_unfold_words
  simp only [View.readAt_eq_ld, harg2.read_unread, harg7.read_unread, harg9.read_unread, harg10.read_unread, harg11.read_unread, harg12.read_unread, harg13.read_unread, harg14.read_unread]
  simp only [View.ld_unit_lit (S := S1x240) (off := ![0, 0]) _ x6 (by decide), View.ld_unit_lit (S := S1x2048x240) (off := ![0, 0, 0]) _ x1 (by decide),
    View.ld_unit_lit (S := S720x240) (off := ![0, 0]) _ xs0 (by decide), View.ld_unit_lit (S := S240x2048) (off := ![0, 0]) _ xs3 (by decide),
    View.ld_unit_lit (S := S240x2048) (off := ![0, 0]) _ xs4 (by decide), View.ld_unit_lit (S := S240x2048) (off := ![0, 0]) _ xs5 (by decide)]
  unfold kBody
  rfl

end Cert.KernelIdeal.Layer
-- ==== Proof.KernelScratch.lean ====
/-
  What the first grid point leaves in the six scratch arrays that the later points read: the tap selector, the
  expert weights stacked per layer, the gate weights, and the modulation of the input read from the cycle position.
-/
module

public import proofs.«01_k».proof.Proof.KernelOut
public import Idealize.ShloMosaic.Lib.Pipeline.ValueKit.Tiles
public import Idealize.ShloMosaic.Lib.Pointwise

@[expose] public section

noncomputable section

namespace Cert.KernelIdeal.Layer

open Cert.KernelIdeal Cert.KernelIdeal.Gen Idealize.ShloMosaic Idealize.ShloMosaic.TcCoe Idealize.SL.Sem

section
variable {F : FTy → Type} [FloatOps F] [Named F]
variable (c : Dev nD) (arg1 : Memref sig .tc .smem S1x1 .f32) (harg1 : arg1.IsWhole)
  (arg3 : Memref sig .tc .vmem S240x8 .f32) (harg3 : arg3.IsWhole) (arg4 : Memref sig .tc .vmem S80x8 .f32) (harg4 : arg4.IsWhole)
  (arg5 : Memref sig .tc .vmem S4x8x240 .f32) (harg5 : arg5.IsWhole) (arg6 : Memref sig .tc .vmem S4x8x240x240 .f32) (harg6 : arg6.IsWhole)
  (x0 : Vec F S1x1 .f32) (x2 : Vec F S240x8 .f32) (x3 : Vec F S80x8 .f32) (x4 : Vec F S4x8x240 .f32) (x5 : Vec F S4x8x240x240 .f32)

set_option maxRecDepth 4000 in
theorem canon_sel : View.canon (kernelRun0_A.sl.HS0_1 (F := F)) = kSel := by
  unfold kernelRun0_A.sl.HS0_1
  exact (View.canon_unit_zero (by funext a; revert a; decide) _ _).trans rfl

theorem canon_gate : View.canon (kernelRun0_A.sl.HS2_1 c arg5 harg5 x4) = k0_pay41 x4 := by
  unfold kernelRun0_A.sl.HS2_1
  refine (View.canon_unit_zero (by funext a; revert a; decide) _ _).trans ?_
  sl_unfold_words
  simp only [View.readAt_eq_ld, harg5.read_unread, View.ld_unit_lit (S := S4x8x240) (off := ![0, 0, 0]) _ x4 (by decide)]
  rfl

theorem step_eq : kernelRun0_A.sl.r c arg1 harg1 x0 = x0 (ix2 0 0) := by
  sl_unfold_words
  simp only [View.readAt_eq_ld, harg1.read_unread]
  rw [View.ld_unit_lit (S := S1x1) (off := ![0, 0]) _ x0 (by decide)]
  refine congrArg x0 (funext fun a => ?_)
  match a with
  | 0 => exact Subsingleton.elim (α := Fin 1) _ _
  | 1 => exact Subsingleton.elim (α := Fin 1) _ _

theorem angle_eq : kernelRun0_A.sl.v983 c arg3 harg3 arg4 harg4 x2 x3 = k0_pay42 x2 x3 := by
  have h2 : View.readAt (Elt F) arg3.view (Rect.unit (s := S240x8) ![0, 0] S240x8.size (by decide)).toLoadRect (harg3.unread x2) = x2 := by
    rw [View.readAt_eq_ld, harg3.read_unread]
    exact View.ld_unit_lit (S := S240x8) (off := ![0, 0]) _ x2 (by decide)
  have h3 : View.readAt (Elt F) arg4.view (Rect.unit (s := S80x8) ![0, 0] S80x8.size (by decide)).toLoadRect (harg4.unread x3) = x3 := by
    rw [View.readAt_eq_ld, harg4.read_unread]
    exact View.ld_unit_lit (S := S80x8) (off := ![0, 0]) _ x3 (by decide)
  conv_rhs => rw [← h2, ← h3]
  rfl

theorem cosine_eq : kernelRun0_A.sl.v984 c arg3 harg3 arg4 harg4 x2 x3 = k0_pay43 x2 x3 := by
  unfold kernelRun0_A.sl.v984
  rw [angle_eq]; rfl

theorem canon_a0 : View.canon (kernelRun0_A.sl.HS3_1 c arg1 harg1 arg3 harg3 arg4 harg4 x0 x2 x3)
    = k0_pay47 (k0_pay43 x2 x3) (x0 (ix2 0 0)) := by
  unfold kernelRun0_A.sl.HS3_1
  refine (View.canon_unit_zero (by funext a; revert a; decide) _ _).trans ?_
  rw [step_eq, cosine_eq]

theorem canon_a1 : View.canon (kernelRun0_A.sl.HS4_1 c arg1 harg1 arg3 harg3 arg4 harg4 x0 x2 x3)
    = k0_pay48 (k0_pay42 x2 x3) (k0_pay43 x2 x3) (x0 (ix2 0 0)) := by
  unfold kernelRun0_A.sl.HS4_1
  refine (View.canon_unit_zero (by funext a; revert a; decide) _ _).trans ?_
  rw [step_eq, cosine_eq, angle_eq]

theorem canon_a2 : View.canon (kernelRun0_A.sl.HS5_1 c arg1 harg1 arg3 harg3 arg4 harg4 x0 x2 x3)
    = k0_pay49 (k0_pay42 x2 x3) (k0_pay43 x2 x3) (x0 (ix2 0 0)) := by
  unfold kernelRun0_A.sl.HS5_1
  refine (View.canon_unit_zero (by funext a; revert a; decide) _ _).trans ?_
  rw [step_eq, cosine_eq, angle_eq]

/-- the weights of the expert numbered `n` over all layers, as the first point stores them -/
def kPiece (n : Fin 32) : Vec F S1x240x240 .bf16 :=
  k0_pay4 (View.readAt (Elt F) arg6.view (Rect.unit (s := S4x8x240x240) ![n.val / 8, n.val % 8, 0, 0] S1x1x240x240.size
    (by revert n; decide)).toLoadRect (harg6.unread x5))

set_option maxRecDepth 8000 in
theorem list_experts : kernelRun0_A.sl.HS1_32 c arg6 harg6 x5
    = List.ofFn fun n : Fin 32 => (⟨Rect.unit (s := S4x1920x240) ![n.rev.val / 8, 240 * (n.rev.val % 8), 0] S1x240x240.size
        (by revert n; decide), kPiece arg6 harg6 x5 n.rev⟩ : View.Piece (Elt F) S4x1920x240 .bf16) := by
  rfl
end

variable (c : Dev nD) (arg6 : Memref sig .tc .vmem S4x8x240x240 .f32) (harg6 : arg6.IsWhole) (x5 : Vec Ideal S4x8x240x240 .f32)

theorem kPiece_apply (n : Fin 32) (l : Fin 4) (e : Fin 8) (hn : n.val = 8 * l.val + e.val) (d k : Fin 240) :
    kPiece arg6 harg6 x5 n (ix3 0 d k) = x5 (ix4 l e d k) := by
  unfold kPiece
  rw [View.readAt_eq_ld, harg6.read_unread]
  pointwise [k0_pay4]
  have h0 : (⟨n.val / 8, by omega⟩ : Fin 4) = l := Fin.ext (by show n.val / 8 = l.val; omega)
  have h1 : (⟨n.val % 8, by omega⟩ : Fin 8) = e := Fin.ext (by show n.val % 8 = e.val; omega)
  exact congrArg₂ (fun a b => x5 (ix4 a b d k)) h0 h1

theorem canon_experts (l : Fin 4) (e : Fin 8) (d k : Fin 240) :
    View.canon (kernelRun0_A.sl.HS1_32 c arg6 harg6 x5) (ix3 l ⟨240 * e.val + d.val, by omega⟩ k) = x5 (ix4 l e d k) := by
  rw [list_experts]
  refine View.canon_ofFn_unit_eq_of_forall _ _ _ _ _ _ ⟨(⟨8 * l.val + e.val, by omega⟩ : Fin 32).rev, fun a => ?_⟩ fun n => ?_
  · rw [Fin.rev_rev]
    match a with
    | 0 => simp; omega
    | 1 => simp; omega
    | 2 => simp
  · intro x hx
    have h0 : l.val = n.rev.val / 8 + (x 0).val := hx 0
    have h1 : 240 * e.val + d.val = 240 * (n.rev.val % 8) + (x 1).val := hx 1
    have h2 : k.val = 0 + (x 2).val := hx 2
    have l0 : (x 0).val < 1 := (x 0).isLt
    have l1 : (x 1).val < 240 := (x 1).isLt
    have e0 : x = ix3 0 d k := by
      funext a
      match a with
      | 0 => exact Subsingleton.elim (α := Fin 1) _ _
      | 1 => exact Fin.ext (by show (x 1).val = d.val; omega)
      | 2 => exact Fin.ext (by show (x 2).val = k.val; omega)
    rw [e0, kPiece_apply arg6 harg6 x5 n.rev l e (by omega)]

end Cert.KernelIdeal.Layer
-- ==== Proof.KernelColumn.lean ====
/-
  The kernel's layer read at one column: over real gate and expert weights and a real column, it is the layer of
  the reals at that column.
-/
module

public import proofs.«01_k».proof.Proof.Core
public import proofs.«01_k».proof.Proof.KernelLayer
public import Idealize.ShloMosaic.Lib.Pointwise
public import Idealize.ShloMosaic.PureOps.Ideal.Laws

@[expose] public section

noncomputable section

namespace Cert.KernelIdeal.Layer

open Idealize.ShloMosaic Idealize.SL.Sem Cert.KernelIdeal.Gen Cert.Moe

variable (t : Fin 2048)

theorem kGate_apply (g : Vec Ideal S1x8x240 .bf16) (h : FVec Ideal S240x2048 .bf16) (e : Fin 8) :
    kGate g h (ix2 e t) = ∑ k : Fin 240, g (ix3 0 e k) * h (ix2 k t) := by
  pointwise [kGate]

theorem kMax_apply (l : FVec Ideal S8x2048 .f32) :
    kMax l (ix2 0 t) = Finset.univ.fold max ⊥ fun e : Fin 8 => l (ix2 e t) := by
  pointwise [kMax]
  rw [lit_negInf]

theorem kFirst_apply (l : FVec Ideal S8x2048 .f32) :
    kFirst l (ix2 0 t) = Finset.univ.fold IntOp.minsi 2147483647#32
      fun e : Fin 8 => if l (ix2 e t) = kMax l (ix2 0 t) then BitVec.ofNat 32 e.val else 8#32 := by
  pointwise [kFirst, kIota]

theorem kMask_apply (i : IVec S1x2048 32) (l : FVec Ideal S8x2048 .f32) (e : Fin 8) :
    kMask i l (ix2 e t) = if BitVec.ofNat 32 e.val = i (ix2 0 t) then ⊥ else l (ix2 e t) := by
  pointwise [kMask, kIota]
  rw [select_eq]; rfl

theorem kW_apply (m1 m2 : FVec Ideal S1x2048 .f32) :
    kW m1 m2 (ix2 0 t) = Ideal.div 1 (1 + Ideal.exp (m2 (ix2 0 t) - m1 (ix2 0 t))) := by
  pointwise [kW]

theorem kExpert_apply (ew : Vec Ideal S1x1920x240 .bf16) (h : FVec Ideal S240x2048 .bf16) (r : Fin 1920) :
    kExpert ew h (ix2 r t) = ∑ k : Fin 240, ew (ix3 0 r k) * h (ix2 k t) := by
  pointwise [kExpert]

theorem kStep_apply (p : FVec Ideal S1920x2048 .f32) (i1 i2 : IVec S1x2048 32) (w1 w2 : FVec Ideal S1x2048 .f32) (e : BitVec 32)
    (off : Nat) (hs : S1920x2048.Slices ![off, 0] S240x2048) (acc : FVec Ideal S240x2048 .f32) (d : Fin 240)
    (hd : off + d.val < 1920) :
    kStep p i1 i2 w1 w2 e ![off, 0] hs acc (ix2 d t) = acc (ix2 d t) + p (ix2 ⟨off + d.val, hd⟩ t) *
      ((if i1 (ix2 0 t) = e then w1 (ix2 0 t) else 0) + (if i2 (ix2 0 t) = e then w2 (ix2 0 t) else 0)) := by
  pointwise [kStep]
  rw [select_eq, select_eq]

theorem kMean_apply (o : FVec Ideal S240x2048 .f32) :
    kMean o (ix2 0 t) = Ideal.div (∑ d : Fin 240, o (ix2 d t)) ((240 : ℝ) : EReal) := by
  pointwise [kMean]
  rw [lit_240]

theorem kNorm_apply (o : FVec Ideal S240x2048 .f32) (d : Fin 240) :
    kNorm o (ix2 d t) = o (ix2 d t) + Ideal.div (o (ix2 d t) - kMean o (ix2 0 t))
      (Ideal.sqrt (kMean (mulf o o) (ix2 0 t) - kMean o (ix2 0 t) * kMean o (ix2 0 t) + (epsR : EReal))) := by
  pointwise [kNorm]
  rw [lit_eps]

/-! ## A real column -/

theorem kGate_real (g : Vec Ideal S1x8x240 .bf16) (h : FVec Ideal S240x2048 .bf16) (gw : Fin 8 → Fin 240 → ℝ) (r : Fin 240 → ℝ)
    (hg : ∀ e k, g (ix3 0 e k) = (gw e k : EReal)) (hh : ∀ k, h (ix2 k t) = (r k : EReal)) (e : Fin 8) :
    kGate g h (ix2 e t) = (gateR gw r e : EReal) := by
  rw [kGate_apply, gateR, coe_sum]
  exact Finset.sum_congr rfl fun k _ => by rw [hg, hh, EReal.coe_mul]

theorem kExpert_real (ew : Vec Ideal S1x1920x240 .bf16) (h : FVec Ideal S240x2048 .bf16) (ex : Fin 8 → Fin 240 → Fin 240 → ℝ)
    (r : Fin 240 → ℝ) (he : ∀ e d k, ew (ix3 0 ⟨240 * e.val + d.val, by omega⟩ k) = (ex e d k : EReal))
    (hh : ∀ k, h (ix2 k t) = (r k : EReal)) (e : Fin 8) (d : Fin 240) :
    kExpert ew h (ix2 ⟨240 * e.val + d.val, by omega⟩ t) = ((∑ k, ex e d k * r k : ℝ) : EReal) := by
  rw [kExpert_apply, coe_sum]
  exact Finset.sum_congr rfl fun k _ => by rw [he, hh, EReal.coe_mul]

section logits
variable (l : FVec Ideal S8x2048 .f32) (lr : Fin 8 → ℝ)

/-- The first greatest row of a column that is `⊥` off `s`. -/
theorem kMax_isTop {s : Fin 8 → Prop} {k : Fin 8} (hk : IsTop s lr k) (hl : ∀ e, s e → l (ix2 e t) = (lr e : EReal))
    (hl' : ∀ e, ¬ s e → l (ix2 e t) = ⊥) : kMax l (ix2 0 t) = (lr k : EReal) := by
  rw [kMax_apply]; exact hk.fold_max _ hl hl'

theorem kFirst_isTop {s : Fin 8 → Prop} {k : Fin 8} (hk : IsTop s lr k) (hl : ∀ e, s e → l (ix2 e t) = (lr e : EReal))
    (hl' : ∀ e, ¬ s e → l (ix2 e t) = ⊥) : kFirst l (ix2 0 t) = BitVec.ofNat 32 k.val := by
  rw [kFirst_apply]
  refine fold_minsi _ k ?_ fun j hj => ?_
  · rw [kMax_isTop t l lr hk hl hl', hl k hk.mem]
  · rw [kMax_isTop t l lr hk hl hl'] at hj
    by_cases hs : s j
    · rw [hl j hs, EReal.coe_eq_coe_iff] at hj
      exact not_lt.mp fun hlt => (hk.lt j hs hlt).ne hj
    · rw [hl' j hs] at hj; exact absurd hj.symm (EReal.coe_ne_bot _)

variable (hl : ∀ e, l (ix2 e t) = (lr e : EReal))
include hl

theorem kMax_real : kMax l (ix2 0 t) = (lr (top1 lr) : EReal) :=
  kMax_isTop t l lr (top1_isTop lr) (fun e _ => hl e) fun e he => absurd trivial he

theorem kFirst_real : kFirst l (ix2 0 t) = BitVec.ofNat 32 (top1 lr).val :=
  kFirst_isTop t l lr (top1_isTop lr) (fun e _ => hl e) fun e he => absurd trivial he

theorem ofNat_inj8 (e k : Fin 8) : BitVec.ofNat 32 e.val = BitVec.ofNat 32 k.val ↔ e = k := by
  clear hl
  revert e k; decide

theorem kMask_real (e : Fin 8) : kMask (kFirst l) l (ix2 e t) = if e = top1 lr then ⊥ else (lr e : EReal) := by
  rw [kMask_apply, kFirst_real t l lr hl, hl]
  simp only [ofNat_inj8 t l lr hl]

theorem kMaskMax_real : kMax (kMask (kFirst l) l) (ix2 0 t) = (lr (top2 lr) : EReal) :=
  kMax_isTop t _ lr (top2_isTop lr) (fun e he => by rw [kMask_real t l lr hl, if_neg he])
    fun e he => by rw [kMask_real t l lr hl, if_pos (not_not.mp he)]

theorem kMaskFirst_real : kFirst (kMask (kFirst l) l) (ix2 0 t) = BitVec.ofNat 32 (top2 lr).val :=
  kFirst_isTop t _ lr (top2_isTop lr) (fun e he => by rw [kMask_real t l lr hl, if_neg he])
    fun e he => by rw [kMask_real t l lr hl, if_pos (not_not.mp he)]

theorem kW_real : kW (kMax l) (kMax (kMask (kFirst l) l)) (ix2 0 t) = (w1R lr : EReal) := by
  rw [kW_apply, kMax_real t l lr hl, kMaskMax_real t l lr hl, ← EReal.coe_sub, Ideal.exp_coe, ← EReal.coe_one,
    ← EReal.coe_add, div_real _ _ (by positivity)]
  rfl

/-- The mixture over real experts' rows. -/
theorem kMoe_real (p : FVec Ideal S1920x2048 .f32) (pr : Fin 8 → Fin 240 → ℝ)
    (hp : ∀ (e : Fin 8) (d : Fin 240), p (ix2 ⟨240 * e.val + d.val, by omega⟩ t) = (pr e d : EReal)) (d : Fin 240) :
    kMoe l p (ix2 d t) = ((∑ e, wtR lr e * pr e d : ℝ) : EReal) := by
  have hw2 : (subf (broadcast S1x2048 (Scalar.ofBits .f32 0x3F800000#32)) (kW (kMax l) (kMax (kMask (kFirst l) l))) :
      FVec Ideal S1x2048 .f32) (ix2 0 t) = ((1 - w1R lr : ℝ) : EReal) := by
    pointwise
    rw [kW_real t l lr hl, EReal.coe_sub]; rfl
  have step : ∀ (e : Fin 8) (b : BitVec 32) (off : Nat) (hs : S1920x2048.Slices ![off, 0] S240x2048) (acc : FVec Ideal S240x2048 .f32) (a : ℝ),
      b = BitVec.ofNat 32 e.val → off = 240 * e.val → acc (ix2 d t) = (a : EReal) →
      kStep p (kFirst l) (kFirst (kMask (kFirst l) l)) (kW (kMax l) (kMax (kMask (kFirst l) l)))
        (subf (broadcast S1x2048 (Scalar.ofBits .f32 0x3F800000#32)) (kW (kMax l) (kMax (kMask (kFirst l) l))))
        b ![off, 0] hs acc (ix2 d t) = ((a + wtR lr e * pr e d : ℝ) : EReal) := by
    intro e b off hs acc a hb hoff hacc
    subst hb hoff
    rw [kStep_apply t _ _ _ _ _ _ _ hs acc d (by omega), hacc, hp, kFirst_real t l lr hl, kMaskFirst_real t l lr hl,
      kW_real t l lr hl, hw2]
    simp only [ofNat_inj8 t l lr hl]
    rw [show (if top1 lr = e then (w1R lr : EReal) else 0) = ((if e = top1 lr then w1R lr else 0 : ℝ) : EReal) by
        by_cases h : e = top1 lr <;> simp [h, eq_comm],
      show (if top2 lr = e then ((1 - w1R lr : ℝ) : EReal) else 0) = ((if e = top2 lr then 1 - w1R lr else 0 : ℝ) : EReal) by
        by_cases h : e = top2 lr <;> simp [h, eq_comm],
      ← EReal.coe_add, ← EReal.coe_mul, ← EReal.coe_add, mul_comm (pr e d)]
    rfl
  have h0 : (broadcast S240x2048 (Scalar.ofBits .f32 0x00000000#32) : FVec Ideal S240x2048 .f32) (ix2 d t) = ((0 : ℝ) : EReal) := by
    pointwise
    rfl
  have s0 := step 0 0#32 0 slices_S1920x2048_o0_0_S240x2048 _ _ rfl (by decide) h0
  have s1 := step 1 1#32 240 slices_S1920x2048_o240_0_S240x2048 _ _ rfl (by decide) s0
  have s2 := step 2 2#32 480 slices_S1920x2048_o480_0_S240x2048 _ _ rfl (by decide) s1
  have s3 := step 3 3#32 720 slices_S1920x2048_o720_0_S240x2048 _ _ rfl (by decide) s2
  have s4 := step 4 4#32 960 slices_S1920x2048_o960_0_S240x2048 _ _ rfl (by decide) s3
  have s5 := step 5 5#32 1200 slices_S1920x2048_o1200_0_S240x2048 _ _ rfl (by decide) s4
  have s6 := step 6 6#32 1440 slices_S1920x2048_o1440_0_S240x2048 _ _ rfl (by decide) s5
  have s7 := step 7 7#32 1680 slices_S1920x2048_o1680_0_S240x2048 _ _ rfl (by decide) s6
  unfold kMoe kMix
  rw [s7]
  refine congrArg Real.toEReal ?_
  simp only [Fin.sum_univ_eight]
  ring

end logits

theorem kMean_real (o : FVec Ideal S240x2048 .f32) (r : Fin 240 → ℝ) (ho : ∀ d, o (ix2 d t) = (r d : EReal)) :
    kMean o (ix2 0 t) = (((∑ d, r d) / 240 : ℝ) : EReal) := by
  rw [kMean_apply, ← div_real _ _ (by norm_num), coe_sum]
  simp only [ho]

theorem kNorm_real (o : FVec Ideal S240x2048 .f32) (r : Fin 240 → ℝ) (ho : ∀ d, o (ix2 d t) = (r d : EReal)) (d : Fin 240) :
    kNorm o (ix2 d t) = (normR r d : EReal) := by
  rw [kNorm_apply, kMean_real t o r ho, kMean_real t (mulf o o) (fun d => r d * r d) fun d => by pointwise; rw [ho, EReal.coe_mul],
    ho, ← EReal.coe_mul, ← EReal.coe_sub, ← EReal.coe_sub, ← EReal.coe_add]
  rw [show (∑ d, r d * r d) / 240 - (∑ d, r d) / 240 * ((∑ d, r d) / 240) = varR r from varR_eq r, Ideal.sqrt_coe,
    if_neg (not_lt.mpr (varR_eps_pos r).le), div_real _ _ (sqrt_varR_pos r).ne', ← EReal.coe_add]
  rfl

/-- One layer of the kernel at a real column. -/
theorem kLayer_real (g : Vec Ideal S1x8x240 .bf16) (ew : Vec Ideal S1x1920x240 .bf16) (h : FVec Ideal S240x2048 .bf16)
    (gw : Fin 8 → Fin 240 → ℝ) (ex : Fin 8 → Fin 240 → Fin 240 → ℝ) (r : Fin 240 → ℝ)
    (hg : ∀ e k, g (ix3 0 e k) = (gw e k : EReal))
    (he : ∀ (e : Fin 8) (d k : Fin 240), ew (ix3 0 ⟨240 * e.val + d.val, by omega⟩ k) = (ex e d k : EReal))
    (hh : ∀ k, h (ix2 k t) = (r k : EReal)) (d : Fin 240) :
    kLayer g ew h (ix2 d t) = (layerR gw ex r d : EReal) :=
  kNorm_real t _ _ (kMoe_real t _ _ (kGate_real t g h gw r hg hh) _ _ (kExpert_real t ew h ex r he hh)) d

theorem kNext_real (g : Vec Ideal S1x8x240 .bf16) (ew : Vec Ideal S1x1920x240 .bf16) (h : FVec Ideal S240x2048 .bf16)
    (gw : Fin 8 → Fin 240 → ℝ) (ex : Fin 8 → Fin 240 → Fin 240 → ℝ) (r : Fin 240 → ℝ)
    (hg : ∀ e k, g (ix3 0 e k) = (gw e k : EReal))
    (he : ∀ (e : Fin 8) (d k : Fin 240), ew (ix3 0 ⟨240 * e.val + d.val, by omega⟩ k) = (ex e d k : EReal))
    (hh : ∀ k, h (ix2 k t) = (r k : EReal)) (d : Fin 240) :
    kNext g ew h (ix2 d t) = (layerR gw ex r d : EReal) := by
  rw [← kLayer_real t g ew h gw ex r hg he hh d]
  pointwise [kNext]

end Cert.KernelIdeal.Layer
-- ==== Proof.RefLayer.lean ====
/-
  One layer of the reference, as an operation on the whole array, named once for all four layers; and the same layer
  read at one position: over real weights, zero biases and unit scale it is the layer of the reals.
-/
module

public import proofs.«01_k».proof.Proof.Core
public import proofs.«01_k».proof.Proof.Gen.ReferenceIdeal.Read
public import Idealize.ShloMosaic.Lib.Pointwise
public import Idealize.ShloMosaic.PureOps.Ideal.Laws

@[expose] public section

noncomputable section

namespace Cert.ReferenceIdeal.Layer

open Idealize.ShloMosaic Idealize.SL.Sem Cert.ReferenceIdeal.Gen Cert.ReferenceIdeal.Read Cert.Moe

section ops
variable {F : FTy → Type} [FloatOps F]

def rLogits (gw : FVec F S8x240 .f32) (gb : FVec F S8 .f32) (h : FVec F S2x2048x240 .f32) : FVec F S2x2048x8 .f32 :=
  addf (Host.dotGeneral dot_S2x2048x240_S8x240_S2x2048x8_2_1_01_0_n_n none h gw)
    (broadcastInDim S2x2048x8 ![0, 1, 2] bcast_S1x1x8_S2x2048x8_0_1_2 (broadcastInDim S1x1x8 ![2] bcast_S8_S1x1x8_2 gb))

/-- The greatest logit of a position. -/
def rMax (l : FVec F S2x2048x8 .f32) : FVec F S2x2048 .f32 :=
  maximumf (broadcastInDim S2x2048 ![] bcast_S_S2x2048 (constant S_ .f32 0xFF800000#32))
    (Host.reduce FloatOps.maximumf l (constant S_ .f32 0xFF800000#32) reducesTo_S2x2048x8_S2x2048_d2 h_S_)

/-- The exponentials of the logits less the greatest. -/
def rExp (l : FVec F S2x2048x8 .f32) : FVec F S2x2048x8 .f32 :=
  Host.exp (subf l (broadcastInDim S2x2048x8 ![0, 1, 2] bcast_S2x2048x1_S2x2048x8_0_1_2
    (broadcastInDim S2x2048x1 ![0, 1] bcast_S2x2048_S2x2048x1_0_1 (rMax l))))

def rSoft (l : FVec F S2x2048x8 .f32) : FVec F S2x2048x8 .f32 :=
  Host.divf (rExp l) (broadcastInDim S2x2048x8 ![0, 1, 2] bcast_S2x2048x1_S2x2048x8_0_1_2
    (broadcastInDim S2x2048x1 ![0, 1] bcast_S2x2048_S2x2048x1_0_1
      (Host.reduceAdd (rExp l) (constant S_ .f32 0x00000000#32) reducesTo_S2x2048x8_S2x2048_d2 h_S_)))

def rVal (s : FVec F S2x2048x8 .f32) : FVec F S2x2048x2 .f32 :=
  (Host.topK S2x2048x2 2 (FloatOps.cmpfTotal .gt) s sliceFits_S2x2048x8_S2x2048x2).1

def rIdx (s : FVec F S2x2048x8 .f32) : IVec S2x2048x2 32 :=
  (Host.topK S2x2048x2 2 (FloatOps.cmpfTotal .gt) s sliceFits_S2x2048x8_S2x2048x2).2

/-- The two weights, renormalised. -/
def rWt (v : FVec F S2x2048x2 .f32) : FVec F S2x2048x2 .f32 :=
  Host.divf v (broadcastInDim S2x2048x2 ![0, 1, 2] bcast_S2x2048x1_S2x2048x2_0_1_2
    (broadcastInDim S2x2048x1 ![0, 1] bcast_S2x2048_S2x2048x1_0_1
      (Host.reduceAdd v (constant S_ .f32 0x00000000#32) reducesTo_S2x2048x2_S2x2048_d2 h_S_)))

def rHot (i : IVec S2x2048x2 32) : FVec F S2x2048x2x8 .f32 :=
  uitofp .f32 (cmpi .eq
    (broadcastInDim S2x2048x2x8 ![0, 1, 2, 3] bcast_S2x2048x2x1_S2x2048x2x8_0_1_2_3
      (broadcastInDim S2x2048x2x1 ![0, 1, 2] bcast_S2x2048x2_S2x2048x2x1_0_1_2 i))
    (broadcastInDim S2x2048x2x8 ![0, 1, 2, 3] bcast_S1x1x1x8_S2x2048x2x8_0_1_2_3 (iotaInDim S1x1x1x8 32 3)))

/-- Every expert's weight at a position. -/
def rComb (s : FVec F S2x2048x8 .f32) : FVec F S2x2048x8 .f32 :=
  Host.dotGeneral dot_S2x2048x2_S2x2048x2x8_S2x2048x8_2_2_n_3_01_01 none (rWt (rVal s)) (rHot (rIdx s))

def rExpert (ew : FVec F S8x240x240 .f32) (eb : FVec F S8x240 .f32) (h : FVec F S2x2048x240 .f32) : FVec F S2x2048x8x240 .f32 :=
  addf (Host.dotGeneral dot_S2x2048x240_S8x240x240_S2x2048x8x240_2_2_01_01_n_n none h ew)
    (broadcastInDim S2x2048x8x240 ![0, 1, 2, 3] bcast_S1x1x8x240_S2x2048x8x240_0_1_2_3
      (broadcastInDim S1x1x8x240 ![2, 3] bcast_S8x240_S1x1x8x240_2_3 eb))

def rMean (o : FVec F S2x2048x240 .f32) : FVec F S2x2048x1 .f32 :=
  Host.divf (broadcastInDim S2x2048x1 ![0, 1] bcast_S2x2048_S2x2048x1_0_1
      (Host.reduceAdd o (constant S_ .f32 0x00000000#32) reducesTo_S2x2048x240_S2x2048_d2 h_S_))
    (broadcastInDim S2x2048x1 ![] bcast_S_S2x2048x1 (constant S_ .f32 0x43700000#32))

/-- The array less its positions' means. -/
def rDev (o : FVec F S2x2048x240 .f32) : FVec F S2x2048x240 .f32 :=
  subf o (broadcastInDim S2x2048x240 ![0, 1, 2] bcast_S2x2048x1_S2x2048x240_0_1_2 (rMean o))

def rNorm (g b : FVec F S240 .f32) (o : FVec F S2x2048x240 .f32) : FVec F S2x2048x240 .f32 :=
  addf o (addf (mulf (Host.divf (rDev o)
      (broadcastInDim S2x2048x240 ![0, 1, 2] bcast_S2x2048x1_S2x2048x240_0_1_2
        (Host.sqrt (addf (rMean (mulf (rDev o) (rDev o)))
          (broadcastInDim S2x2048x1 ![] bcast_S_S2x2048x1 (constant S_ .f32 0x3727C5AC#32))))))
      (broadcastInDim S2x2048x240 ![0, 1, 2] bcast_S1x1x240_S2x2048x240_0_1_2 (broadcastInDim S1x1x240 ![2] bcast_S240_S1x1x240_2 g)))
    (broadcastInDim S2x2048x240 ![0, 1, 2] bcast_S1x1x240_S2x2048x240_0_1_2 (broadcastInDim S1x1x240 ![2] bcast_S240_S1x1x240_2 b)))

def rMoe (s : FVec F S2x2048x8 .f32) (p : FVec F S2x2048x8x240 .f32) : FVec F S2x2048x240 .f32 :=
  Host.dotGeneral dot_S2x2048x8_S2x2048x8x240_S2x2048x240_2_2_n_3_01_01 none (rComb s) p

/-- One layer. -/
def rLayer (gw : FVec F S8x240 .f32) (gb : FVec F S8 .f32) (ew : FVec F S8x240x240 .f32) (eb : FVec F S8x240 .f32)
    (g b : FVec F S240 .f32) (h : FVec F S2x2048x240 .f32) : FVec F S2x2048x240 .f32 :=
  rNorm g b (rMoe (rSoft (rLogits gw gb h)) (rExpert ew eb h))

variable (x0 : (⟨S2x2048x240, .f32⟩ : BufTy).Contents (Elt F)) (x1 : (⟨S_, .i32⟩ : BufTy).Contents (Elt F))
  (x2 : (⟨S240x8, .f32⟩ : BufTy).Contents (Elt F)) (x3 : (⟨S80x8, .f32⟩ : BufTy).Contents (Elt F))
  (x4 : (⟨S4x8x240, .f32⟩ : BufTy).Contents (Elt F)) (x5 : (⟨S4x8, .f32⟩ : BufTy).Contents (Elt F))
  (x6 : (⟨S4x8x240x240, .f32⟩ : BufTy).Contents (Elt F)) (x7 : (⟨S4x8x240, .f32⟩ : BufTy).Contents (Elt F))
  (x8 x9 : (⟨S240, .f32⟩ : BufTy).Contents (Elt F))

theorem val_layer0 : val_main_v97 (F := F) x0 x1 x2 x3 x4 x5 x6 x7 x8 x9
    = rLayer (val_main_v40 x4) (val_main_v42 x5) (val_main_v44 x6) (val_main_v46 x7) x8 x9 (val_main_v38 x0 x1 x2 x3) := rfl

theorem val_layer1 : val_main_v156 (F := F) x0 x1 x2 x3 x4 x5 x6 x7 x8 x9
    = rLayer (val_main_v99 x4) (val_main_v101 x5) (val_main_v103 x6) (val_main_v105 x7) x8 x9
      (val_main_v97 x0 x1 x2 x3 x4 x5 x6 x7 x8 x9) := rfl

theorem val_layer2 : val_main_v215 (F := F) x0 x1 x2 x3 x4 x5 x6 x7 x8 x9
    = rLayer (val_main_v158 x4) (val_main_v160 x5) (val_main_v162 x6) (val_main_v164 x7) x8 x9
      (val_main_v156 x0 x1 x2 x3 x4 x5 x6 x7 x8 x9) := rfl

theorem val_layer3 : val_main_v274 (F := F) x0 x1 x2 x3 x4 x5 x6 x7 x8 x9
    = rLayer (val_main_v217 x4) (val_main_v219 x5) (val_main_v221 x6) (val_main_v223 x7) x8 x9
      (val_main_v215 x0 x1 x2 x3 x4 x5 x6 x7 x8 x9) := rfl

end ops

/-! ## At one position -/

variable (b : Fin 2) (t : Fin 2048)

theorem rLogits_apply (gw : FVec Ideal S8x240 .f32) (gb : FVec Ideal S8 .f32) (h : FVec Ideal S2x2048x240 .f32) (e : Fin 8) :
    rLogits gw gb h (ix3 b t e) = (∑ k : Fin 240, h (ix3 b t k) * gw (ix2 e k)) + gb (ix1 e) := by
  pointwise [rLogits]

theorem rMax_apply (l : FVec Ideal S2x2048x8 .f32) :
    rMax l (ix2 b t) = Finset.univ.fold max ⊥ fun e : Fin 8 => l (ix3 b t e) := by
  pointwise [rMax]
  rw [lit_negInf, max_eq_right bot_le]

theorem rExp_apply (l : FVec Ideal S2x2048x8 .f32) (e : Fin 8) :
    rExp l (ix3 b t e) = Ideal.exp (l (ix3 b t e) - rMax l (ix2 b t)) := by
  pointwise [rExp]

theorem rSoft_apply (l : FVec Ideal S2x2048x8 .f32) (e : Fin 8) :
    rSoft l (ix3 b t e) = Ideal.div (rExp l (ix3 b t e)) (∑ k : Fin 8, rExp l (ix3 b t k)) := by
  pointwise [rSoft]

theorem rWt_apply (v : FVec Ideal S2x2048x2 .f32) (j : Fin 2) :
    rWt v (ix3 b t j) = Ideal.div (v (ix3 b t j)) (∑ k : Fin 2, v (ix3 b t k)) := by
  pointwise [rWt]

theorem rHot_apply (i : IVec S2x2048x2 32) (j : Fin 2) (e : Fin 8) :
    rHot (F := Ideal) i (ix4 b t j e) = if i (ix3 b t j) = BitVec.ofNat 32 e.val then 1 else 0 := by
  pointwise [rHot]
  by_cases h : i (ix3 b t j) = BitVec.ofNat 32 e.val
  · rw [if_pos h, h]
    simp [IntOp.cmpi, FloatOps.uitofp]
  · rw [if_neg h]
    simp [IntOp.cmpi, FloatOps.uitofp, beq_false_of_ne h]

theorem rComb_apply (s : FVec Ideal S2x2048x8 .f32) (e : Fin 8) :
    rComb s (ix3 b t e) = ∑ j : Fin 2, rWt (rVal s) (ix3 b t j) * rHot (F := Ideal) (rIdx s) (ix4 b t j e) := by
  pointwise [rComb]

theorem rExpert_apply (ew : FVec Ideal S8x240x240 .f32) (eb : FVec Ideal S8x240 .f32) (h : FVec Ideal S2x2048x240 .f32)
    (e : Fin 8) (d : Fin 240) :
    rExpert ew eb h (ix4 b t e d) = (∑ k : Fin 240, h (ix3 b t k) * ew (ix3 e d k)) + eb (ix2 e d) := by
  pointwise [rExpert]

theorem rMoe_apply (s : FVec Ideal S2x2048x8 .f32) (p : FVec Ideal S2x2048x8x240 .f32) (d : Fin 240) :
    rMoe s p (ix3 b t d) = ∑ e : Fin 8, rComb s (ix3 b t e) * p (ix4 b t e d) := by
  pointwise [rMoe]

theorem rMean_apply (o : FVec Ideal S2x2048x240 .f32) :
    rMean o (ix3 b t 0) = Ideal.div (∑ d : Fin 240, o (ix3 b t d)) ((240 : ℝ) : EReal) := by
  pointwise [rMean]
  rw [lit_240]

theorem rDev_apply (o : FVec Ideal S2x2048x240 .f32) (d : Fin 240) :
    rDev o (ix3 b t d) = o (ix3 b t d) - rMean o (ix3 b t 0) := by
  pointwise [rDev]

theorem rNorm_apply (g c : FVec Ideal S240 .f32) (o : FVec Ideal S2x2048x240 .f32) (d : Fin 240) :
    rNorm g c o (ix3 b t d) = o (ix3 b t d) + (Ideal.div (rDev o (ix3 b t d))
      (Ideal.sqrt (rMean (mulf (rDev o) (rDev o)) (ix3 b t 0) + (epsR : EReal))) * g (ix1 d) + c (ix1 d)) := by
  pointwise [rNorm]
  rw [lit_eps]

/-- The order in which the reference sorts a position's weights. -/
def rBefore (s : FVec Ideal S2x2048x8 .f32) (k k' : Fin 8) : Bool :=
  FloatOps.cmpfTotal .gt (s (ix3 b t k)) (s (ix3 b t k')) == 1#1

theorem along_ix3 (j k : Fin 8) : (ix3 b t j : S2x2048x8.Idx).along 2 k = ix3 b t k := by
  funext a
  match a with
  | 0 => rfl
  | 1 => rfl
  | 2 => rfl

theorem sort2_read {α : Type} (s : FVec Ideal S2x2048x8 .f32) (y : S2x2048x8.Idx → α) (j : Fin 8) :
    (Host.sort2 S2x2048x8 2 (fun l r => FloatOps.cmpfTotal .gt l.1 r.1) s y).1 (ix3 b t j)
      = s (ix3 b t (sortedFrom (rBefore b t s) j)) ∧
    (Host.sort2 S2x2048x8 2 (fun l r => FloatOps.cmpfTotal .gt l.1 r.1) s y).2 (ix3 b t j)
      = y (ix3 b t (sortedFrom (rBefore b t s) j)) := by
  have hR : (fun k k' : Fin 8 => FloatOps.cmpfTotal .gt (s ((ix3 b t j : S2x2048x8.Idx).along 2 k))
      (s ((ix3 b t j : S2x2048x8.Idx).along 2 k')) == 1#1) = rBefore b t s := by
    funext k k'
    rw [along_ix3, along_ix3]
    rfl
  unfold Host.sort2
  rw [dif_pos (show 2 < S2x2048x8.rank by decide)]
  exact ⟨(congrArg (fun R => s ((ix3 b t j : S2x2048x8.Idx).along 2 (sortedFrom R j))) hR).trans (congrArg s (along_ix3 b t j _)),
    (congrArg (fun R => y ((ix3 b t j : S2x2048x8.Idx).along 2 (sortedFrom R j))) hR).trans (congrArg y (along_ix3 b t j _))⟩

theorem rVal_apply (s : FVec Ideal S2x2048x8 .f32) (j : Fin 2) :
    rVal s (ix3 b t j) = s (ix3 b t (sortedFrom (rBefore b t s) (j.castLE (by decide)))) := by
  pointwise [rVal, Host.topK]
  exact (sort2_read b t s _ _).1

theorem rIdx_apply (s : FVec Ideal S2x2048x8 .f32) (j : Fin 2) :
    rIdx s (ix3 b t j) = BitVec.ofNat 32 (sortedFrom (rBefore b t s) (j.castLE (by decide))).val := by
  pointwise [rIdx, Host.topK]
  exact (sort2_read b t s _ _).2

/-! ## A real position -/

section logits
variable (l : FVec Ideal S2x2048x8 .f32) (lr : Fin 8 → ℝ) (hl : ∀ e, l (ix3 b t e) = (lr e : EReal))

/-- The softmax of eight logits, as the reference computes it. -/
def softR (lr : Fin 8 → ℝ) (e : Fin 8) : ℝ := Real.exp (lr e - lr (top1 lr)) / ∑ k, Real.exp (lr k - lr (top1 lr))

theorem softR_sum_pos : 0 < ∑ k, Real.exp (lr k - lr (top1 lr)) := Finset.sum_pos (fun k _ => Real.exp_pos _) ⟨0, Finset.mem_univ 0⟩

theorem softR_lt (i j : Fin 8) : softR lr i < softR lr j ↔ lr i < lr j := by
  unfold softR
  rw [div_lt_div_iff_of_pos_right (softR_sum_pos lr), Real.exp_lt_exp]
  constructor <;> intro h <;> linarith

theorem softR_top1 : top1 (softR lr) = top1 lr :=
  ((top1_isTop (softR lr)).of_strictMono (softR_lt lr)).unique (top1_isTop lr)

theorem softR_top2 : top2 (softR lr) = top2 lr :=
  IsTop.unique (s := fun e => e ≠ top1 lr)
    (softR_top1 lr ▸ (top2_isTop (softR lr)).of_strictMono (softR_lt lr)) (top2_isTop lr)

include hl

theorem rExp_real (e : Fin 8) : rExp l (ix3 b t e) = (Real.exp (lr e - lr (top1 lr)) : EReal) := by
  rw [rExp_apply, rMax_apply, (top1_isTop lr).fold_max _ (fun e _ => hl e) (fun e he => absurd trivial he), hl,
    ← EReal.coe_sub, Ideal.exp_coe]

theorem rSoft_real (e : Fin 8) : rSoft l (ix3 b t e) = (softR lr e : EReal) := by
  rw [rSoft_apply, rExp_real b t l lr hl, softR, ← div_real _ _ (softR_sum_pos lr).ne', coe_sum]
  simp only [rExp_real b t l lr hl]

theorem rTop_real : sortedFrom (rBefore b t (rSoft l)) 0 = top1 lr ∧ sortedFrom (rBefore b t (rSoft l)) 1 = top2 lr := by
  rw [← softR_top1 lr, ← softR_top2 lr]
  refine sortedFrom_top (softR lr) _ fun a c => ?_
  unfold rBefore
  rw [rSoft_real b t l lr hl, rSoft_real b t l lr hl]
  show (BitVec.ofBool (decide ((softR lr c : EReal) < (softR lr a : EReal))) == 1#1) = true ↔ _
  by_cases h : softR lr c < softR lr a <;> simp [h]

/-- Every expert's weight, from a position's real logits. -/
theorem rComb_real (e : Fin 8) : rComb (rSoft l) (ix3 b t e) = (wtR lr e : EReal) := by
  have hS := softR_sum_pos lr
  have hsrc : ∀ j : Fin 2, sortedFrom (rBefore b t (rSoft l)) (j.castLE (by decide)) = if j = 0 then top1 lr else top2 lr := by
    intro j
    have h0 := (rTop_real b t l lr hl).1
    have h1 := (rTop_real b t l lr hl).2
    match j with
    | 0 => rw [if_pos rfl]; exact h0
    | 1 => rw [if_neg (by decide)]; exact h1
  have hv : ∀ j : Fin 2, rVal (rSoft l) (ix3 b t j) = (softR lr (if j = 0 then top1 lr else top2 lr) : EReal) := by
    intro j
    rw [rVal_apply, hsrc, rSoft_real b t l lr hl]
  have hi : ∀ j : Fin 2, rIdx (rSoft l) (ix3 b t j) = BitVec.ofNat 32 (if j = 0 then top1 lr else top2 lr).val := by
    intro j
    rw [rIdx_apply, hsrc]
  have hinj : ∀ a c : Fin 8, BitVec.ofNat 32 a.val = BitVec.ofNat 32 c.val ↔ a = c := by decide
  have hpos : ∀ k, 0 < softR lr k := fun k => div_pos (Real.exp_pos _) hS
  have hsum : softR lr (top1 lr) + softR lr (top2 lr) ≠ 0 := (add_pos (hpos _) (hpos _)).ne'
  rw [rComb_apply, Fin.sum_univ_two, rWt_apply, rWt_apply, Fin.sum_univ_two, rHot_apply, rHot_apply, hv, hv, hi, hi]
  simp only [hinj, if_true, if_neg (show ¬ (1 : Fin 2) = 0 by decide)]
  rw [← EReal.coe_add, div_real _ _ hsum, div_real _ _ hsum]
  have h1 : softR lr (top1 lr) / (softR lr (top1 lr) + softR lr (top2 lr)) = w1R lr := softmax_pair _ _ _ _ hS
  have h2 : softR lr (top2 lr) / (softR lr (top1 lr) + softR lr (top2 lr)) = 1 - w1R lr := softmax_pair' _ _ _ _ hS
  have hm : ∀ (w : ℝ) (k : Fin 8), (w : EReal) * (if k = e then 1 else 0) = ((if e = k then w else 0 : ℝ) : EReal) := by
    intro w k
    by_cases h : e = k
    · rw [if_pos h.symm, if_pos h, mul_one]
    · rw [if_neg (Ne.symm h), if_neg h, mul_zero, EReal.coe_zero]
  rw [h1, h2, wtR, hm, hm, EReal.coe_add]

theorem rMoe_real (p : FVec Ideal S2x2048x8x240 .f32) (pr : Fin 8 → Fin 240 → ℝ)
    (hp : ∀ e d, p (ix4 b t e d) = (pr e d : EReal)) (d : Fin 240) :
    rMoe (rSoft l) p (ix3 b t d) = ((∑ e, wtR lr e * pr e d : ℝ) : EReal) := by
  rw [rMoe_apply, coe_sum]
  exact Finset.sum_congr rfl fun e _ => by rw [rComb_real b t l lr hl, hp, EReal.coe_mul]

end logits

theorem rMean_real (o : FVec Ideal S2x2048x240 .f32) (r : Fin 240 → ℝ) (ho : ∀ d, o (ix3 b t d) = (r d : EReal)) :
    rMean o (ix3 b t 0) = (((∑ d, r d) / 240 : ℝ) : EReal) := by
  rw [rMean_apply, ← div_real _ _ (by norm_num), coe_sum]
  simp only [ho]

theorem rNorm_real (g c : FVec Ideal S240 .f32) (o : FVec Ideal S2x2048x240 .f32) (r : Fin 240 → ℝ)
    (hg : ∀ d, g (ix1 d) = 1) (hc : ∀ d, c (ix1 d) = 0) (ho : ∀ d, o (ix3 b t d) = (r d : EReal)) (d : Fin 240) :
    rNorm g c o (ix3 b t d) = (normR r d : EReal) := by
  have hdev : ∀ d, rDev o (ix3 b t d) = ((r d - meanR r : ℝ) : EReal) := fun d => by
    rw [rDev_apply, rMean_real b t o r ho, ho, EReal.coe_sub]; rfl
  rw [rNorm_apply, rMean_real b t (mulf (rDev o) (rDev o)) (fun d => (r d - meanR r) * (r d - meanR r))
    (fun d => by pointwise; rw [hdev, EReal.coe_mul]), hdev, ho, hg, hc, mul_one, add_zero, ← EReal.coe_add]
  rw [show (∑ d, (r d - meanR r) * (r d - meanR r)) / 240 = varR r from rfl, Ideal.sqrt_coe,
    if_neg (not_lt.mpr (varR_eps_pos r).le), div_real _ _ (sqrt_varR_pos r).ne', ← EReal.coe_add]
  rfl

/-- One layer of the reference at a real position. -/
theorem rLayer_real (gw : FVec Ideal S8x240 .f32) (gb : FVec Ideal S8 .f32) (ew : FVec Ideal S8x240x240 .f32)
    (eb : FVec Ideal S8x240 .f32) (g c : FVec Ideal S240 .f32) (h : FVec Ideal S2x2048x240 .f32)
    (gr : Fin 8 → Fin 240 → ℝ) (ex : Fin 8 → Fin 240 → Fin 240 → ℝ) (r : Fin 240 → ℝ)
    (hgw : ∀ e k, gw (ix2 e k) = (gr e k : EReal)) (hgb : ∀ e, gb (ix1 e) = 0)
    (hew : ∀ e d k, ew (ix3 e d k) = (ex e d k : EReal)) (heb : ∀ e d, eb (ix2 e d) = 0)
    (hg : ∀ d, g (ix1 d) = 1) (hc : ∀ d, c (ix1 d) = 0)
    (hh : ∀ k, h (ix3 b t k) = (r k : EReal)) (d : Fin 240) :
    rLayer gw gb ew eb g c h (ix3 b t d) = (layerR gr ex r d : EReal) := by
  refine rNorm_real b t g c _ _ hg hc (rMoe_real b t _ (gateR gr r) (fun e => ?_) _ (fun e d => ∑ k, ex e d k * r k) fun e d => ?_) d
  · rw [rLogits_apply, hgb, add_zero, gateR, coe_sum]
    exact Finset.sum_congr rfl fun k _ => by rw [hgw, hh, EReal.coe_mul, mul_comm]
  · rw [rExpert_apply, heb, add_zero, coe_sum]
    exact Finset.sum_congr rfl fun k _ => by rw [hew, hh, EReal.coe_mul, mul_comm]

end Cert.ReferenceIdeal.Layer
-- ==== Proof.RefCycle.lean ====
/-
  The reference's cycle block read at one position: the mean of a row's three rotations.
-/
module

public import proofs.«01_k».proof.Proof.Cycle
public import proofs.«01_k».proof.Proof.Gen.ReferenceIdeal.Read
public import Idealize.ShloMosaic.Lib.Pointwise
public import Idealize.ShloMosaic.PureOps.Ideal.Laws

@[expose] public section

noncomputable section

namespace Cert.ReferenceIdeal.Layer

open Idealize.ShloMosaic Idealize.SL.Sem Cert.ReferenceIdeal.Gen Cert.ReferenceIdeal.Read Cert.Moe

variable (t : Fin 2048)

/-- The remainder of the reference's words that is never negative, as its program spells it. -/
def fmod (x c : BitVec 32) : BitVec 32 :=
  Scalar.select
    (IntOp.andi
      (IntOp.cmpi .ne (IntOp.cmpi .slt (IntOp.remsi .host x (Scalar.select (IntOp.cmpi .eq c 0#32) (1#32) c)) 0#32)
        (IntOp.cmpi .slt (Scalar.select (IntOp.cmpi .eq c 0#32) (1#32) c) 0#32))
      (IntOp.cmpi .ne (IntOp.remsi .host x (Scalar.select (IntOp.cmpi .eq c 0#32) (1#32) c)) 0#32))
    (IntOp.addi (IntOp.remsi .host x (Scalar.select (IntOp.cmpi .eq c 0#32) (1#32) c)) (Scalar.select (IntOp.cmpi .eq c 0#32) (1#32) c))
    (IntOp.remsi .host x (Scalar.select (IntOp.cmpi .eq c 0#32) (1#32) c))

theorem fmod_eq : ∀ t : Fin 2048, fmod (BitVec.ofNat 32 t.val) 240#32 = BitVec.ofNat 32 (root t).val := by decide +kernel

theorem fix_eq : ∀ k : Fin 240, Scalar.select (IntOp.cmpi .slt (BitVec.ofNat 32 k.val) 0#32)
    (IntOp.addi (BitVec.ofNat 32 k.val) 240#32) (BitVec.ofNat 32 k.val) = BitVec.ofNat 32 k.val := by decide +kernel

theorem clamp_eq : ∀ k : Fin 240, min (BitVec.ofNat 32 k.val).toInt.toNat 239 = k.val := by decide +kernel

theorem word_eq : val_main_v1 (F := Ideal) (ix1 t) = BitVec.ofNat 32 (root t).val := by
  pointwise [val_main_v1, val_main_v0, val_main_call0_v14, val_main_call0_v13, val_main_call0_v12, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_c, val_main_call0_c, val_main_call0_c_0, val_main_call0_c_1, val_main_call0_c_2, val_main_call0_c_3]
  exact fmod_eq t

theorem index_eq : val_main_v7 (F := Ideal) (ix2 t 0) = BitVec.ofNat 32 (root t).val := by
  pointwise [val_main_v7, val_main_v6, val_main_v3, val_main_v5, val_main_v2, val_main_v4, val_main_c_0, val_main_c_1]
  rw [word_eq]
  exact fix_eq (root t)

variable (x0 : FVec Ideal S2x2048x240 .f32) (x1 : IVec S_ 32) (x2 : FVec Ideal S240x8 .f32) (x3 : FVec Ideal S80x8 .f32)

theorem start_index (j : Fin 8) :
    gather_S240x8_S2048x1_S2048x8_1_0_n_n_0_1_18.siIdx (ix2 t j) ⟨0, by decide⟩ = ix2 t 0 := by
  funext b
  match b with
  | ⟨0, _⟩ => rfl
  | ⟨1, _⟩ => rfl

theorem gather_apply (j : Fin 8) :
    val_main_v8 (F := Ideal) x2 (ix2 t j) = x2 (ix2 (root t) j) := by
  unfold val_main_v8 Host.gather
  refine congrArg x2 (funext fun a => ?_)
  match a with
  | ⟨0, _⟩ =>
    refine Fin.ext ?_
    show min (val_main_v7 (F := Ideal) (gather_S240x8_S2048x1_S2048x8_1_0_n_n_0_1_18.siIdx (ix2 t j) ⟨0, by decide⟩)).toInt.toNat 239 + 0 + 0
      = (root t).val
    rw [start_index, index_eq, clamp_eq]
    rfl
  | ⟨1, _⟩ =>
    refine Fin.ext ?_
    show 0 + 0 + j.val = j.val
    omega

theorem emb_apply (d : Fin 240) :
    val_main_v13 (F := Ideal) x2 x3 (ix2 t d) = ∑ j : Fin 8, x2 (ix2 (root t) j) * x3 (ix2 (low d) j) := by
  pointwise [val_main_v13, val_main_v12, val_main_v11, val_main_v10, val_main_v9]
  exact Finset.sum_congr rfl fun j _ => congrArg (· * x3 (ix2 (low d) j)) (gather_apply t x2 j)

variable (b : Fin 2) (d : Fin 240)

theorem v25_apply : val_main_v25 (F := Ideal) x0 x1 x2 x3 (ix3 b t d) = val_main_v24 (F := Ideal) x0 x1 x2 x3 (ix3 b t (prev d)) := by
  pointwise [val_main_v25, val_main_call1_v0, val_main_call1_v1]
  exact prev_if (fun k => val_main_v24 (F := Ideal) x0 x1 x2 x3 (ix3 b t k)) d

theorem v30_apply : val_main_v30 (F := Ideal) x0 x1 x2 x3 (ix3 b t d) = val_main_v29 (F := Ideal) x0 x1 x2 x3 (ix3 b t (prev d)) := by
  pointwise [val_main_v30, val_main_call2_v0, val_main_call2_v1]
  exact prev_if (fun k => val_main_v29 (F := Ideal) x0 x1 x2 x3 (ix3 b t k)) d

theorem v24_apply : val_main_v24 (F := Ideal) x0 x1 x2 x3 (ix3 b t d)
    = x0 (ix3 b t d) * (Ideal.cos (val_main_v13 (F := Ideal) x2 x3 (ix2 t d)) + val_main_v17 (F := Ideal) x1 ix0) := by
  pointwise [val_main_v24, val_main_v23, val_main_v22, val_main_v21, val_main_v20, val_main_v18]
  rfl

theorem v17_apply : val_main_v17 (F := Ideal) x1 ix0 = (pumpR (x1 ix0) : EReal) := by
  have e : val_main_v17 (F := Ideal) x1 ix0 = Ideal.ofBits .f32 0x3F4CCCCD#32 *
      Ideal.sin ((((x1 ix0).toInt : ℝ) : EReal) * Ideal.ofBits .f32 0x3D1A6A62#32) := rfl
  rw [e, lit_rate, lit_amp, ← EReal.coe_mul, Ideal.sin_coe, ← EReal.coe_mul]
  rfl

theorem v29_apply : val_main_v29 (F := Ideal) x0 x1 x2 x3 (ix3 b t d)
    = val_main_v25 (F := Ideal) x0 x1 x2 x3 (ix3 b t d) * Ideal.sin (val_main_v13 (F := Ideal) x2 x3 (ix2 t d)) := by
  pointwise [val_main_v29, val_main_v28, val_main_v27, val_main_v26]

theorem v38_apply : val_main_v38 (F := Ideal) x0 x1 x2 x3 (ix3 b t d)
    = Ideal.div (val_main_v24 (F := Ideal) x0 x1 x2 x3 (ix3 b t d) + val_main_v29 (F := Ideal) x0 x1 x2 x3 (ix3 b t d)
        + val_main_v30 (F := Ideal) x0 x1 x2 x3 (ix3 b t d) * Ideal.cos (val_main_v13 (F := Ideal) x2 x3 (ix2 t d))) ((3 : ℝ) : EReal) := by
  pointwise [val_main_v38, val_main_v37, val_main_v36, val_main_v35, val_main_v34, val_main_v33, val_main_v32, val_main_v31, val_main_cst_3]
  rw [lit_three]

theorem rFront_real (xr : Fin 240 → ℝ) (rr : Fin 240 → Fin 8 → ℝ) (pr : Fin 80 → Fin 8 → ℝ)
    (hx : ∀ k, x0 (ix3 b t k) = (xr k : EReal)) (hr : ∀ i j, x2 (ix2 i j) = (rr i j : EReal))
    (hp : ∀ i j, x3 (ix2 i j) = (pr i j : EReal)) :
    val_main_v38 (F := Ideal) x0 x1 x2 x3 (ix3 b t d) = (cycleR (pumpR (x1 ix0)) (embedR rr pr t) xr d : EReal) := by
  have hem (k : Fin 240) : val_main_v13 (F := Ideal) x2 x3 (ix2 t k) = (embedR rr pr t k : EReal) := by
    refine (emb_apply t x2 x3 k).trans ?_
    unfold embedR
    rw [coe_sum]
    refine Finset.sum_congr rfl fun j _ => ?_
    rw [hr, hp, ← EReal.coe_mul]
  have ha (k : Fin 240) : val_main_v24 (F := Ideal) x0 x1 x2 x3 (ix3 b t k)
      = ((xr k * modR (pumpR (x1 ix0)) (embedR rr pr t) k : ℝ) : EReal) := by
    rw [v24_apply, hem, v17_apply, hx, Ideal.cos_coe, ← EReal.coe_add, ← EReal.coe_mul]
    rfl
  have hb (k : Fin 240) : val_main_v29 (F := Ideal) x0 x1 x2 x3 (ix3 b t k)
      = ((xr (prev k) * modR (pumpR (x1 ix0)) (embedR rr pr t) (prev k) * Real.sin (embedR rr pr t k) : ℝ) : EReal) := by
    rw [v29_apply, v25_apply, ha, hem, Ideal.sin_coe, ← EReal.coe_mul]
  rw [v38_apply, v30_apply, ha, hb, hb, hem, Ideal.cos_coe, ← EReal.coe_mul, ← EReal.coe_add, ← EReal.coe_add]
  exact div_real _ _ (by norm_num)

end Cert.ReferenceIdeal.Layer
-- ==== Proof.Head.lean ====
/-
  The head, of the kernel and of the reference: the mean of the positions against the head's weights, and the logistic
  function of that.
-/
module

public import proofs.«01_k».proof.Proof.KernelLayer
public import proofs.«01_k».proof.Proof.Core
public import proofs.«01_k».proof.Proof.Gen.ReferenceIdeal.Read
public import Idealize.ShloMosaic.Lib.Pointwise
public import Idealize.ShloMosaic.PureOps.Ideal.Laws

@[expose] public section

noncomputable section

namespace Cert.Moe
open Idealize.ShloMosaic

/-- The head of the reals: the logistic function of the weighted mean over the positions. -/
def headR (w : Fin 240 → ℝ) (r : Fin 240 → Fin 2048 → ℝ) : ℝ := 1 / (1 + Real.exp (-((∑ d, w d * ∑ t, r d t) / 2048)))

theorem logistic (x : ℝ) : Ideal.div 1 (1 + Ideal.exp (x : EReal)) = ((1 / (1 + Real.exp x) : ℝ) : EReal) := by
  rw [Ideal.exp_coe, ← EReal.coe_one, ← EReal.coe_add]
  exact div_real _ _ (by positivity)

/-- A sum as the sum of its two halves, entry by entry. -/
theorem sum_half (n m : Nat) (hm : n + n = m) (f : Fin m → ℝ) :
    ∑ t, f t = ∑ x : Fin n, (f ⟨x.val, by omega⟩ + f ⟨n + x.val, by omega⟩) := by
  subst hm
  rw [Fin.sum_univ_add, Finset.sum_add_distrib]
  rfl

end Cert.Moe

namespace Cert.KernelIdeal.Layer

open Idealize.ShloMosaic Idealize.SL.Sem Cert.KernelIdeal.Gen Cert.Moe

/-- Sixteen columns 128 apart, as the kernel adds them. -/
def fold16 (f : Fin 2048 → ℝ) (x : Fin 128) : ℝ :=
  (f ⟨x.val, by omega⟩ + f ⟨1024 + x.val, by omega⟩ + (f ⟨512 + x.val, by omega⟩ + f ⟨1024 + (512 + x.val), by omega⟩)
    + (f ⟨256 + x.val, by omega⟩ + f ⟨1024 + (256 + x.val), by omega⟩
      + (f ⟨512 + (256 + x.val), by omega⟩ + f ⟨1024 + (512 + (256 + x.val)), by omega⟩)))
  + (f ⟨128 + x.val, by omega⟩ + f ⟨1024 + (128 + x.val), by omega⟩
      + (f ⟨512 + (128 + x.val), by omega⟩ + f ⟨1024 + (512 + (128 + x.val)), by omega⟩)
    + (f ⟨256 + (128 + x.val), by omega⟩ + f ⟨1024 + (256 + (128 + x.val)), by omega⟩
      + (f ⟨512 + (256 + (128 + x.val)), by omega⟩ + f ⟨1024 + (512 + (256 + (128 + x.val))), by omega⟩)))

theorem fold16_sum (f : Fin 2048 → ℝ) : ∑ x, fold16 f x = ∑ t, f t :=
  ((sum_half 1024 2048 rfl f).trans ((sum_half 512 1024 rfl _).trans ((sum_half 256 512 rfl _).trans (sum_half 128 256 rfl _)))).symm

theorem kHead_real (h : FVec Ideal S240x2048 .f32) (hw : Vec Ideal S1x240 .f32) (r : Fin 240 → Fin 2048 → ℝ) (w : Fin 240 → ℝ)
    (hh : ∀ d t, h (ix2 d t) = (r d t : EReal)) (hhw : ∀ d, hw (ix2 0 d) = (w d : EReal)) (i : Fin 128) :
    kHead h hw (ix3 0 0 i) = (headR w r : EReal) := by
  pointwise [kHead, k0_pay1]
  simp only [hh, hhw, lit_inv2048]
  simp only [← EReal.coe_add, ← EReal.coe_mul, ← coe_sum]
  have e : (∑ x : Fin 128, ∑ d : Fin 240, w d * fold16 (r d) x) = ∑ d, w d * ∑ t, r d t := by
    rw [Finset.sum_comm]
    exact Finset.sum_congr rfl fun d _ => by rw [← Finset.mul_sum, fold16_sum]
  have key : ∀ s : EReal, s = ((-((∑ d, w d * ∑ t, r d t) / 2048) : ℝ) : EReal) →
      Ideal.div 1 (1 + Ideal.exp s) = (headR w r : EReal) := by
    rintro _ rfl
    exact logistic _
  have hexp (s : EReal) : (Scalar.exp (F := Ideal) (φ := .f32) s) = Ideal.exp s := rfl
  refine (congrArg (fun s : EReal => Ideal.div 1 (1 + s)) (hexp _)).trans (key _ ?_)
  rw [Fin.sum_univ_one, ← EReal.coe_zero, ← EReal.coe_sub]
  refine congrArg Real.toEReal ?_
  refine (congrArg (fun s : ℝ => 0 - s * (1 / 2048)) e).trans ?_
  ring

end Cert.KernelIdeal.Layer

namespace Cert.ReferenceIdeal.Layer

open Idealize.ShloMosaic Idealize.SL.Sem Cert.ReferenceIdeal.Gen Cert.ReferenceIdeal.Read Cert.Moe

section
variable {F : FTy → Type} [FloatOps F]
/-- The reference's head. -/
def rHead (h : FVec F S2x2048x240 .f32) (hw : FVec F S1x240 .f32) (hb : FVec F S1 .f32) : FVec F S2x1 .f32 :=
  Host.divf val_main_v287 (addf val_main_v285 (Host.exp (Host.negf (addf
    (Host.dotGeneral dot_S2x240_S240x1_S2x1_1_0_0_1_n_n none
      (Host.divf (Host.reduceAdd h val_main_cst_46 reducesTo_S2x2048x240_S2x240_d1 h_S_) val_main_v276)
      (transpose S240x1 [1, 0] hw transposes_S1x240_S240x1_1_0))
    (broadcastInDim S2x1 ![0, 1] bcast_S1x1_S2x1_0_1 (broadcastInDim S1x1 ![1] bcast_S1_S1x1_1 hb))))))
end

theorem rHead_real (h : FVec Ideal S2x2048x240 .f32) (hw : FVec Ideal S1x240 .f32) (hb : FVec Ideal S1 .f32) (b : Fin 2)
    (r : Fin 240 → Fin 2048 → ℝ) (w : Fin 240 → ℝ)
    (hh : ∀ d t, h (ix3 b t d) = (r d t : EReal)) (hhw : ∀ d, hw (ix2 0 d) = (w d : EReal)) (hhb : hb (ix1 0) = 0) :
    rHead h hw hb (ix2 b 0) = (headR w r : EReal) := by
  pointwise [rHead, val_main_v287, val_main_v285, val_main_cst_46, val_main_v276, val_main_cst_47, val_main_cst_48, val_main_cst_49]
  rw [hhb, add_zero]
  simp only [hh, hhw, lit_2048, ← coe_sum, div_real _ (2048 : ℝ) (by norm_num), ← EReal.coe_mul, ← EReal.coe_neg]
  refine (logistic _).trans (congrArg Real.toEReal ?_)
  refine congrArg (fun s : ℝ => 1 / (1 + Real.exp (-s))) ?_
  rw [Finset.sum_div]
  exact Finset.sum_congr rfl fun d _ => by ring

end Cert.ReferenceIdeal.Layer
-- ==== Proof.Model.lean ====
/-
  The two programs on real inputs: the kernel's body over the scratch of the first point, and the reference, are one
  function of the reals, `modelR`.
-/
module

public import proofs.«01_k».proof.Proof.KernelScratch
public import proofs.«01_k».proof.Proof.KernelColumn
public import proofs.«01_k».proof.Proof.RefLayer
public import proofs.«01_k».proof.Proof.RefCycle
public import proofs.«01_k».proof.Proof.Head

@[expose] public section

noncomputable section

namespace Cert.Moe

/-- the hidden column of a position after the first `n` layers -/
def hiddenR (step : BitVec 32) (rr : Fin 240 → Fin 8 → ℝ) (pr : Fin 80 → Fin 8 → ℝ) (gw : Fin 4 → Fin 8 → Fin 240 → ℝ)
    (ex : Fin 4 → Fin 8 → Fin 240 → Fin 240 → ℝ) (xr : Fin 2048 → Fin 240 → ℝ) (t : Fin 2048) (n : Nat) : Fin 240 → ℝ :=
  match n with
  | 0 => cycleR (pumpR step) (embedR rr pr t) (xr t)
  | n + 1 => layerR (gw (Fin.ofNat 4 n)) (ex (Fin.ofNat 4 n)) (hiddenR step rr pr gw ex xr t n)

/-- the result for one batch entry -/
def modelR (step : BitVec 32) (rr : Fin 240 → Fin 8 → ℝ) (pr : Fin 80 → Fin 8 → ℝ) (gw : Fin 4 → Fin 8 → Fin 240 → ℝ)
    (ex : Fin 4 → Fin 8 → Fin 240 → Fin 240 → ℝ) (wr : Fin 240 → ℝ) (xr : Fin 2048 → Fin 240 → ℝ) : ℝ :=
  headR wr fun d t => hiddenR step rr pr gw ex xr t 4 d

end Cert.Moe

variable (step : BitVec 32) (rr : Fin 240 → Fin 8 → ℝ) (pr : Fin 80 → Fin 8 → ℝ) (gw : Fin 4 → Fin 8 → Fin 240 → ℝ)
  (ex : Fin 4 → Fin 8 → Fin 240 → Fin 240 → ℝ) (wr : Fin 240 → ℝ) (xr : Fin 2048 → Fin 240 → ℝ)

namespace Cert.KernelIdeal.Layer

open Idealize.ShloMosaic Idealize.SL.Sem Cert.KernelIdeal.Gen Cert.Moe

theorem kG_real (g : Vec Ideal S4x8x240 .bf16) (l : Nat) (inb) (v : Fin 4) (hv : v.val = l)
    (hg : ∀ l e k, g (ix3 l e k) = (gw l e k : EReal)) (e : Fin 8) (k : Fin 240) :
    kG l inb g (ix3 0 e k) = (gw v e k : EReal) := by
  subst hv
  pointwise [kG]
  exact hg v e k

theorem kE_real (w : Vec Ideal S4x1920x240 .bf16) (l : Nat) (inb) (v : Fin 4) (hv : v.val = l)
    (hw : ∀ (l : Fin 4) (e : Fin 8) (d k : Fin 240), w (ix3 l ⟨240 * e.val + d.val, by omega⟩ k) = (ex l e d k : EReal))
    (e : Fin 8) (d k : Fin 240) :
    kE l inb w (ix3 0 ⟨240 * e.val + d.val, by omega⟩ k) = (ex v e d k : EReal) := by
  subst hv
  pointwise [kE]
  exact hw v e d k

/-- the kernel's result block for one batch entry -/
theorem kBody_real (st : Elt Ideal .f32) (hst : st = ((step.toInt : ℝ) : EReal)) (ew : Vec Ideal S4x1920x240 .bf16)
    (g : Vec Ideal S4x8x240 .bf16) (rt : Vec Ideal S240x8 .f32) (pj : Vec Ideal S80x8 .f32)
    (x : Vec Ideal S1x2048x240 .f32) (hw : Vec Ideal S1x240 .f32)
    (hew : ∀ (l : Fin 4) (e : Fin 8) (d k : Fin 240), ew (ix3 l ⟨240 * e.val + d.val, by omega⟩ k) = (ex l e d k : EReal))
    (hg : ∀ l e k, g (ix3 l e k) = (gw l e k : EReal)) (hr : ∀ i j, rt (ix2 i j) = (rr i j : EReal))
    (hp : ∀ i j, pj (ix2 i j) = (pr i j : EReal)) (hx : ∀ t k, x (ix3 0 t k) = (xr t k : EReal))
    (hhw : ∀ d, hw (ix2 0 d) = (wr d : EReal)) (i : Fin 128) :
    kBody kSel ew g (k0_pay47 (k0_pay43 rt pj) st) (k0_pay48 (k0_pay42 rt pj) (k0_pay43 rt pj) st)
      (k0_pay49 (k0_pay42 rt pj) (k0_pay43 rt pj) st) x hw (ix3 0 0 i) = (modelR step rr pr gw ex wr xr : EReal) := by
  have h0 (t : Fin 2048) (d : Fin 240) := kFront_real t step st hst x rt pj (xr t) rr pr (hx t) hr hp d
  have h1 (t : Fin 2048) (d : Fin 240) := kNext_real t _ _ _ (gw 0) (ex 0) _ (kG_real gw g 0 (by decide) 0 rfl hg)
    (kE_real ex ew 0 (by decide) 0 rfl hew) (h0 t) d
  have h2 (t : Fin 2048) (d : Fin 240) := kNext_real t _ _ _ (gw 1) (ex 1) _ (kG_real gw g 1 (by decide) 1 rfl hg)
    (kE_real ex ew 1 (by decide) 1 rfl hew) (h1 t) d
  have h3 (t : Fin 2048) (d : Fin 240) := kNext_real t _ _ _ (gw 2) (ex 2) _ (kG_real gw g 2 (by decide) 2 rfl hg)
    (kE_real ex ew 2 (by decide) 2 rfl hew) (h2 t) d
  have h4 (t : Fin 2048) (d : Fin 240) := kLayer_real t _ _ _ (gw 3) (ex 3) _ (kG_real gw g 3 (by decide) 3 rfl hg)
    (kE_real ex ew 3 (by decide) 3 rfl hew) (h3 t) d
  exact kHead_real _ hw (fun d t => hiddenR step rr pr gw ex xr t 4 d) wr (fun d t => h4 t d) hhw i

end Cert.KernelIdeal.Layer

namespace Cert.ReferenceIdeal.Layer

open Idealize.ShloMosaic Idealize.SL.Sem Cert.ReferenceIdeal Cert.ReferenceIdeal.Read Cert.Moe

variable (x0 : (⟨S2x2048x240, .f32⟩ : BufTy).Contents (Elt Ideal)) (x1 : (⟨S_, .i32⟩ : BufTy).Contents (Elt Ideal))
  (x2 : (⟨S240x8, .f32⟩ : BufTy).Contents (Elt Ideal)) (x3 : (⟨S80x8, .f32⟩ : BufTy).Contents (Elt Ideal))
  (x4 : (⟨S4x8x240, .f32⟩ : BufTy).Contents (Elt Ideal)) (x5 : (⟨S4x8, .f32⟩ : BufTy).Contents (Elt Ideal))
  (x6 : (⟨S4x8x240x240, .f32⟩ : BufTy).Contents (Elt Ideal)) (x7 : (⟨S4x8x240, .f32⟩ : BufTy).Contents (Elt Ideal))
  (x8 x9 : (⟨S240, .f32⟩ : BufTy).Contents (Elt Ideal))
  (x10 : (⟨S1x240, .f32⟩ : BufTy).Contents (Elt Ideal)) (x11 : (⟨S1, .f32⟩ : BufTy).Contents (Elt Ideal))

/-- the reference's result for one batch entry -/
theorem model_real (b : Fin 2) (hx : ∀ t k, x0 (ix3 b t k) = (xr t k : EReal)) (hr : ∀ i j, x2 (ix2 i j) = (rr i j : EReal))
    (hp : ∀ i j, x3 (ix2 i j) = (pr i j : EReal)) (hg : ∀ l e k, x4 (ix3 l e k) = (gw l e k : EReal))
    (hgb : ∀ l e, x5 (ix2 l e) = 0) (he : ∀ l e d k, x6 (ix4 l e d k) = (ex l e d k : EReal))
    (heb : ∀ l e d, x7 (ix3 l e d) = 0) (hng : ∀ d, x8 (ix1 d) = 1) (hnb : ∀ d, x9 (ix1 d) = 0)
    (hhw : ∀ d, x10 (ix2 0 d) = (wr d : EReal)) (hhb : x11 (ix1 0) = 0) :
    val_main_v288 (F := Ideal) x0 x1 x2 x3 x4 x5 x6 x7 x8 x9 x10 x11 (ix2 b 0)
      = (modelR (x1 ix0) rr pr gw ex wr xr : EReal) := by
  have h0 (t : Fin 2048) (d : Fin 240) := rFront_real t x0 x1 x2 x3 b d (xr t) rr pr (hx t) hr hp
  have h1 (t : Fin 2048) (d : Fin 240) := (congrFun (val_layer0 x0 x1 x2 x3 x4 x5 x6 x7 x8 x9) _).trans
    (rLayer_real b t _ _ _ _ x8 x9 _ (gw 0) (ex 0) _
      (fun e k => by pointwise [val_main_v40, val_main_v39]; exact hg _ e k) (fun e => by pointwise [val_main_v42, val_main_v41]; exact hgb _ e)
      (fun e d k => by pointwise [val_main_v44, val_main_v43]; exact he _ e d k) (fun e d => by pointwise [val_main_v46, val_main_v45]; exact heb _ e d)
      hng hnb (h0 t) d)
  have h2 (t : Fin 2048) (d : Fin 240) := (congrFun (val_layer1 x0 x1 x2 x3 x4 x5 x6 x7 x8 x9) _).trans
    (rLayer_real b t _ _ _ _ x8 x9 _ (gw 1) (ex 1) _
      (fun e k => by pointwise [val_main_v99, val_main_v98]; exact hg _ e k) (fun e => by pointwise [val_main_v101, val_main_v100]; exact hgb _ e)
      (fun e d k => by pointwise [val_main_v103, val_main_v102]; exact he _ e d k) (fun e d => by pointwise [val_main_v105, val_main_v104]; exact heb _ e d)
      hng hnb (h1 t) d)
  have h3 (t : Fin 2048) (d : Fin 240) := (congrFun (val_layer2 x0 x1 x2 x3 x4 x5 x6 x7 x8 x9) _).trans
    (rLayer_real b t _ _ _ _ x8 x9 _ (gw 2) (ex 2) _
      (fun e k => by pointwise [val_main_v158, val_main_v157]; exact hg _ e k) (fun e => by pointwise [val_main_v160, val_main_v159]; exact hgb _ e)
      (fun e d k => by pointwise [val_main_v162, val_main_v161]; exact he _ e d k) (fun e d => by pointwise [val_main_v164, val_main_v163]; exact heb _ e d)
      hng hnb (h2 t) d)
  have h4 (t : Fin 2048) (d : Fin 240) := (congrFun (val_layer3 x0 x1 x2 x3 x4 x5 x6 x7 x8 x9) _).trans
    (rLayer_real b t _ _ _ _ x8 x9 _ (gw 3) (ex 3) _
      (fun e k => by pointwise [val_main_v217, val_main_v216]; exact hg _ e k) (fun e => by pointwise [val_main_v219, val_main_v218]; exact hgb _ e)
      (fun e d k => by pointwise [val_main_v221, val_main_v220]; exact he _ e d k) (fun e d => by pointwise [val_main_v223, val_main_v222]; exact heb _ e d)
      hng hnb (h3 t) d)
  have h5 := rHead_real _ x10 x11 b (fun d t => hiddenR (x1 ix0) rr pr gw ex xr t 4 d) wr (fun d t => h4 t d) hhw hhb
  unfold modelR
  rw [← h5]
  rfl

end Cert.ReferenceIdeal.Layer
-- ==== Proof.KernelArray.lean ====
/-
  The kernel's result array: what each grid point leaves in its output block, over the scratch the first point fills,
  and the array after the run.
-/
module

public import proofs.«01_k».proof.Proof.Model
public import Idealize.ShloMosaic.Lib.Claim
public import Idealize.ShloMosaic.Lib.Pipeline.ValueKit.Point

@[expose] public section

noncomputable section

namespace Cert.KernelIdeal.Layer

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ) (c : Dev nD)

/-- the first grid point -/
def tA : Fin cfg0.N := ⟨0, by decide⟩
/-- the second -/
def tB : Fin cfg0.N := ⟨1, by decide⟩

/-- the block a point leaves, over what the first point put into the scratch -/
def kPoint (t : Fin cfg0.N) : FVec F S1x1x128 .f32 :=
  kBody kSel (View.canon (kernelRun0_A.sl.HS1_32 c (ms0_5 tA) (hs0_5 tA) (iblk m c 5 tA))) (k0_pay41 (iblk m c 4 tA))
    (k0_pay47 (k0_pay43 (iblk m c 2 tA) (iblk m c 3 tA)) (iblk m c 0 tA (ix2 0 0)))
    (k0_pay48 (k0_pay42 (iblk m c 2 tA) (iblk m c 3 tA)) (k0_pay43 (iblk m c 2 tA) (iblk m c 3 tA)) (iblk m c 0 tA (ix2 0 0)))
    (k0_pay49 (k0_pay42 (iblk m c 2 tA) (iblk m c 3 tA)) (k0_pay43 (iblk m c 2 tA) (iblk m c 3 tA)) (iblk m c 0 tA (ix2 0 0)))
    (iblk m c 1 t) (iblk m c 6 t)

theorem point_A : (outsAt0 m c tA.val tA.isLt).1 = kPoint m c tA := by
  rw [outsAt0_A m c tA rfl]
  dsimp only
  rw [out_A, canon_sel, canon_gate, canon_a0, canon_a1, canon_a2]
  rfl

theorem point_B : (outsAt0 m c tB.val tB.isLt).1 = kPoint m c tB := by
  have e : outsAt0 m c (tB.val - 1) (by decide) = outsAt0 m c tA.val tA.isLt := rfl
  rw [outsAt0_B m c tB (by decide)]
  dsimp only
  rw [out_B, e, outsAt0_A m c tA rfl]
  dsimp only
  unfold sout0_A_0 sout0_A_1 sout0_A_2 sout0_A_3 sout0_A_4 sout0_A_5
  simp only [View.read_writes_junk_eq_canon]
  unfold kernelRun0_A
  dsimp only
  rw [canon_sel, canon_gate, canon_a0, canon_a1, canon_a2]
  rfl

theorem point_eq (t : Fin cfg0.N) : (outsAt0 m c t.val t.isLt).1 = kPoint m c t := by
  have h : t = tA ∨ t = tB := fin_N0 t
  rcases h with rfl | rfl
  · exact point_A m c
  · exact point_B m c

/-- every window but the hidden input's and the result's stays at its array's origin -/
theorem idx0 : ∀ t : Fin grid0.N, (∀ a, win0_0.index t a = 0) ∧ (∀ a, win0_2.index t a = 0) ∧ (∀ a, win0_3.index t a = 0)
    ∧ (∀ a, win0_4.index t a = 0) ∧ (∀ a, win0_5.index t a = 0) ∧ (∀ a, win0_6.index t a = 0) := by decide +kernel
theorem idx1 : ∀ t : Fin grid0.N, win0_1.index t 0 = t.val ∧ win0_1.index t 1 = 0 ∧ win0_1.index t 2 = 0 := by decide +kernel
theorem idx7 : ∀ t : Fin grid0.N, win0_7.index t 0 = t.val ∧ win0_7.index t 1 = 0 ∧ win0_7.index t 2 = 0 := by decide +kernel

/-- the result array: row `t` is what point `t` left -/
def kArray : (⟨S2x1x128, .f32⟩ : BufTy).Contents (Elt F) := fun i => kPoint m c (Fin.cast N_0.symm (i 0)) (ix3 0 0 (i 2))

theorem array7 : (dats m 0 c).arrAt 7 cfg0.N = kArray m c := by
  refine (dats m 0 c).arrAt_eq_of_covers 7 _ (by decide +kernel) fun t hf y => ?_
  blk_simp
  rw [after0_7, point_eq]
  unfold kArray
  have e : Fin.cast N_0.symm ((win0_7.blk t).view.emb y 0) = t := Fin.ext (by
    show ((win0_7.blk t).view.emb y 0).val = t.val
    blk_simp [(idx7 t).1])
  rw [e]
  refine congrArg (kPoint m c t) ?_
  blk_ext [(idx7 t).2.1, (idx7 t).2.2]

theorem in0 (t : Fin cfg0.N) : iblk m c 0 t (ix2 0 0) = FloatOps.sitofp .f32 (m ((c : Thread nD τ).loc main_arg1) ix0) := by
  have h : V m c main_v1 = shapeCast S1x1 (sitofp .f32 (m ((c : Thread nD τ).loc main_arg1))) shapeCasts_S_S1x1 := by
    show StableHlo.after [hostOps0].flatten (fun b => m (c, b)) (Proc.tc.devRef main_v1) = _
    simp only [hostOps0, List.flatten_cons, List.flatten_nil, List.append_nil]
    after_results
    rfl
  blk_simp [iblk]
  rw [h]
  pointwise
theorem in1 (t : Fin cfg0.N) (r : Fin 2048) (k : Fin 240) :
    iblk m c 1 t (ix3 0 r k) = m ((c : Thread nD τ).loc main_arg0) (ix3 (Fin.cast N_0 t) r k) := by
  blk_ext [iblk, (idx1 t).1, (idx1 t).2.1, (idx1 t).2.2]
  rfl
theorem in2 (t : Fin cfg0.N) (i : Fin 240) (j : Fin 8) : iblk m c 2 t (ix2 i j) = m ((c : Thread nD τ).loc main_arg2) (ix2 i j) := by
  blk_ext [iblk, (idx0 t).2.1]
theorem in3 (t : Fin cfg0.N) (i : Fin 80) (j : Fin 8) : iblk m c 3 t (ix2 i j) = m ((c : Thread nD τ).loc main_arg3) (ix2 i j) := by
  blk_ext [iblk, (idx0 t).2.2.1]
theorem in4 (t : Fin cfg0.N) (l : Fin 4) (e : Fin 8) (k : Fin 240) :
    iblk m c 4 t (ix3 l e k) = m ((c : Thread nD τ).loc main_arg4) (ix3 l e k) := by
  blk_ext [iblk, (idx0 t).2.2.2.1]
theorem in5 (t : Fin cfg0.N) (l : Fin 4) (e : Fin 8) (d k : Fin 240) :
    iblk m c 5 t (ix4 l e d k) = m ((c : Thread nD τ).loc main_arg6) (ix4 l e d k) := by
  blk_ext [iblk, (idx0 t).2.2.2.2.1]
theorem in6 (t : Fin cfg0.N) (k : Fin 240) : iblk m c 6 t (ix2 0 k) = m ((c : Thread nD τ).loc main_arg10) (ix2 0 k) := by
  blk_ext [iblk, (idx0 t).2.2.2.2.2]

/-- the result buffer: the first lane of each row of the result array -/
theorem result_eq : Pipeline.afterTail₀ cfgs (dats m) 0 (V0 m) [hostOps1] c main_v4
    = fun i => kPoint m c (Fin.cast N_0.symm (i 0)) (ix3 0 0 0) := by
  have h : Pipeline.afterTail₀ cfgs (dats m) 0 (V0 m) [hostOps1] c main_v4
      = shapeCast S2x1 (extractStridedSlice S2x1x1 ![0, 0, 0] (kArray m c) slices_S2x1x128_S2x1x1_0_0_0) shapeCasts_S2x1x1_S2x1 := by
    unfold Pipeline.afterTail₀
    simp only [hostOps1, List.flatten_cons, List.flatten_nil, List.append_nil]
    after_results
    exact congrArg (fun a : (⟨S2x1x128, .f32⟩ : BufTy).Contents (Elt F) =>
        shapeCast S2x1 (extractStridedSlice S2x1x1 ![0, 0, 0] a slices_S2x1x128_S2x1x1_0_0_0) shapeCasts_S2x1x1_S2x1)
      ((Pipeline.withArrays_arr spec0 (by decide) c (V0 m c) (fun w => (dats m 0 c).arrAt w (cfgs 0).N) 7).trans (array7 m c))
  rw [h]
  funext i
  pointwise [kArray]

end Cert.KernelIdeal.Layer
-- ==== Proof.Tame.lean ====
/-
  What the precondition says of the arguments: the arrays the programs compute with hold real numbers, the four biases
  are zero and the scale of the normalisation is one.
-/
module

public import proofs.«01_k».proof.Proof.Core
public import proofs.«01_k».proof.Pre_tame
public import proofs.«01_k».proof.Proof.Gen.Pre_tame
public import Idealize.ShloMosaic.Lib.ReduceAll
public import Idealize.ShloMosaic.Lib.Pointwise
public import Idealize.ShloMosaic.PureOps.Ideal.Laws

@[expose] public section

noncomputable section

namespace Cert.Pre_tame.Layer

open Idealize.ShloMosaic Cert.Pre_tame Cert.Moe

theorem lit_posInf : Ideal.ofBits .f32 0x7F800000#32 = ⊤ := by
  simp [Ideal.ofBits, Ideal.ieee, -EReal.coe_mul]

/-- a value whose size is below infinity is a real number -/
theorem real_of_lt (x : EReal) (h : Ideal.cmp .olt (max x (-x)) (Ideal.ofBits .f32 0x7F800000#32) = 1#1) : ∃ r : ℝ, x = (r : EReal) := by
  rw [lit_posInf] at h
  induction x using EReal.rec with
  | bot => simp [Ideal.cmp] at h
  | top => simp [Ideal.cmp] at h
  | coe r => exact ⟨r, rfl⟩

theorem eq_of_oeq (x y : EReal) (h : Ideal.cmp .oeq x y = 1#1) : x = y := by
  by_contra hn
  simp [Ideal.cmp, hn] at h

instance : Subsingleton S_.Idx := ⟨fun a b => funext fun i => i.elim0⟩

/-- the size of an array below infinity at every index -/
theorem finite_of {s u : Shape} {axes : List (Fin s.rank)} (x w : s.Idx → EReal) (init : u.Idx → BitVec 1) (h : s.ReducesTo axes S_)
    (hu : 0 < u.numel) (hw : ∀ i, w i = Ideal.ofBits .f32 0x7F800000#32)
    (e : Host.reduce IntOp.andi (fun i => Ideal.cmp .olt (max (x i) (-x i)) (w i)) init h hu ix0 = 1#1) :
    ∃ r : s.Idx → ℝ, ∀ i, x i = (r i : EReal) :=
  Classical.axiomOfChoice fun i => real_of_lt (x i) (by rw [← hw i]; exact Host.reduce_andi_all _ init h hu ix0 e i)

/-- an array equal to another at every index -/
theorem equal_of {s u : Shape} {axes : List (Fin s.rank)} (x w : s.Idx → EReal) (init : u.Idx → BitVec 1) (h : s.ReducesTo axes S_)
    (hu : 0 < u.numel) (e : Host.reduce IntOp.andi (fun i => Ideal.cmp .oeq (x i) (w i)) init h hu ix0 = 1#1) (i : s.Idx) : x i = w i :=
  eq_of_oeq _ _ (Host.reduce_andi_all _ init h hu ix0 e i)

variable (x0 : FVec Ideal S2x2048x240 .f32) (x1 : IVec S_ 32) (x2 : FVec Ideal S240x8 .f32) (x3 : FVec Ideal S80x8 .f32)
  (x4 : FVec Ideal S4x8x240 .f32) (x5 : FVec Ideal S4x8 .f32) (x6 : FVec Ideal S4x8x240x240 .f32) (x7 : FVec Ideal S4x8x240 .f32)
  (x8 x9 : FVec Ideal S240 .f32) (x10 : FVec Ideal S1x240 .f32) (x11 : FVec Ideal S1 .f32)

theorem tame_iff [Cert.Pre_tame.Facts] (h : fn (F := Ideal) x0 x1 x2 x3 x4 x5 x6 x7 x8 x9 x10 x11 = fun _ => 1#1) :
    (∃ r : S2x2048x240.Idx → ℝ, ∀ i, x0 i = (r i : EReal)) ∧ (∃ r : S240x8.Idx → ℝ, ∀ i, x2 i = (r i : EReal))
    ∧ (∃ r : S80x8.Idx → ℝ, ∀ i, x3 i = (r i : EReal)) ∧ (∃ r : S4x8x240.Idx → ℝ, ∀ i, x4 i = (r i : EReal))
    ∧ (∃ r : S4x8x240x240.Idx → ℝ, ∀ i, x6 i = (r i : EReal)) ∧ (∃ r : S1x240.Idx → ℝ, ∀ i, x10 i = (r i : EReal))
    ∧ (∀ i, x5 i = 0) ∧ (∀ i, x7 i = 0) ∧ (∀ i, x8 i = 1) ∧ (∀ i, x9 i = 0) ∧ (∀ i, x11 i = 0) := by
  have h0 := congrFun h ix0
  unfold fn fn_part1 fn_part2 at h0
  dsimp only at h0
  obtain ⟨ha, hb⟩ := IntOp.andi_eq_one.1 h0
  obtain ⟨ha, hw⟩ := IntOp.andi_eq_one.1 ha
  obtain ⟨ha, he⟩ := IntOp.andi_eq_one.1 ha
  obtain ⟨ha, hg⟩ := IntOp.andi_eq_one.1 ha
  obtain ⟨ha, hp⟩ := IntOp.andi_eq_one.1 ha
  obtain ⟨hx, hr⟩ := IntOp.andi_eq_one.1 ha
  obtain ⟨hb, hhb⟩ := IntOp.andi_eq_one.1 hb
  obtain ⟨hb, hnb⟩ := IntOp.andi_eq_one.1 hb
  obtain ⟨hb, hng⟩ := IntOp.andi_eq_one.1 hb
  obtain ⟨hgb, heb⟩ := IntOp.andi_eq_one.1 hb
  have z : Ideal.ofBits .f32 0x00000000#32 = 0 := by simp [Ideal.ofBits, Ideal.ieee, -EReal.coe_mul]
  have o : Ideal.ofBits .f32 0x3F800000#32 = 1 := by
    simp [Ideal.ofBits, Ideal.ieee, -EReal.coe_mul]; norm_num
  exact ⟨finite_of x0 _ _ _ _ (fun _ => rfl) hx, finite_of x2 _ _ _ _ (fun _ => rfl) hr, finite_of x3 _ _ _ _ (fun _ => rfl) hp,
    finite_of x4 _ _ _ _ (fun _ => rfl) hg, finite_of x6 _ _ _ _ (fun _ => rfl) he, finite_of x10 _ _ _ _ (fun _ => rfl) hw,
    fun i => (equal_of x5 _ _ _ _ hgb i).trans z, fun i => (equal_of x7 _ _ _ _ heb i).trans z,
    fun i => (equal_of x8 _ _ _ _ hng i).trans o, fun i => (equal_of x9 _ _ _ _ hnb i).trans z,
    fun i => (equal_of x11 _ _ _ _ hhb i).trans z⟩

end Cert.Pre_tame.Layer
-- ==== Proof.Result.lean ====
/-
  The two programs' results under the precondition: both are the real number `modelR` of the arguments' real values.
-/
module

public import proofs.«01_k».proof.Proof.KernelArray
public import proofs.«01_k».proof.Proof.Tame

@[expose] public section

noncomputable section

namespace Cert.Moe

open Cert.KernelIdeal.Layer Cert.ReferenceIdeal.Read Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- under the precondition the kernel's block at batch entry `b` starts with the reference's value there -/
theorem point_value [Cert.Pre_tame.Facts] (h : Cert.Pre_tame.fn (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11)) = fun _ => 1#1) (b : Fin 2) :
    val_main_v288 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11)) (ix2 b 0)
      = kPoint m c (Fin.cast Cert.KernelIdeal.Gen.N_0.symm b) (ix3 0 0 0) := by
  obtain ⟨⟨xr, hx⟩, ⟨rr, hr⟩, ⟨pr, hp⟩, ⟨gw, hg⟩, ⟨ex, he⟩, ⟨wr, hw⟩, hgb, heb, hng, hnb, hhb⟩ :=
    Cert.Pre_tame.Layer.tame_iff _ _ _ _ _ _ _ _ _ _ _ _ h
  refine (Cert.ReferenceIdeal.Layer.model_real (fun i j => rr (ix2 i j)) (fun i j => pr (ix2 i j)) (fun l e k => gw (ix3 l e k))
    (fun l e d k => ex (ix4 l e d k)) (fun d => wr (ix2 0 d)) (fun t k => xr (ix3 b t k)) _ _ _ _ _ _ _ _ _ _ _ _ b
    (fun t k => hx _) (fun i j => hr _) (fun i j => hp _) (fun l e k => hg _) (fun l e => hgb _) (fun l e d k => he _)
    (fun l e d => heb _) (fun d => hng _) (fun d => hnb _) (fun d => hw _) (hhb _)).trans ?_
  refine (kBody_real _ _ _ _ _ _ _ _ ?_ _ _ _ _ _ _ ?_ ?_ ?_ ?_ ?_ ?_ 0).symm
  · exact in0 m c tA
  · exact fun l e d k => (canon_experts c _ _ _ l e d k).trans ((in5 m c tA l e d k).trans (he _))
  · exact fun l e k => by
      simp only [Cert.KernelIdeal.Gen.k0_pay41, shapeCast_self]
      exact (in4 m c tA l e k).trans (hg _)
  · exact fun i j => (in2 m c tA i j).trans (hr _)
  · exact fun i j => (in3 m c tA i j).trans (hp _)
  · exact fun t k => (in1 m c _ t k).trans (hx _)
  · exact fun d => (in6 m c _ d).trans (hw _)

end Cert.Moe
-- ==== Proof.lean ====
/-
  The claim. The three frames are the generated ones; the named constants are those of the table; the two ideal programs
  end with the same real numbers (`Cert.Moe.point_value`), reached through the value of the kernel's result buffer
  (`Cert.KernelIdeal.Layer.result_eq`) and of the reference's last operation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.Gen.ReferenceIdeal.Run
public import proofs.«01_k».proof.Proof.Gen.ReferenceIdeal.Read
public import proofs.«01_k».proof.Proof.Result
public import Idealize.ShloMosaic.Lib.Claim
public import Idealize.ShloMosaic.Adequacy
public import Idealize.ShloMosaic.Init

@[expose] public section

noncomputable section

namespace Cert.Proof

open Idealize.ShloMosaic Idealize.SL.Sem

/-- the reference ends quiescent with its arguments unchanged -/
theorem reference_frame : Cert.quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

theorem values : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hagree
  refine ⟨fun c i => Cert.KernelIdeal.Layer.kPoint m c (Fin.cast Cert.KernelIdeal.Gen.N_0.symm (i 0)) (ix3 0 0 0), ?_, ?_⟩
  · refine θ_run_mono (θ_run_and (Cert.KernelIdeal.Gen.run_main m g) (Cert.KernelIdeal.Gen.unchanged m g)) ?_
    intro r hr c
    exact ⟨((hr.1 c).2 Cert.KernelIdeal.main_v4 (Pipeline.mem_restRefs_of _ (by decide) (by decide))).trans
      (Cert.KernelIdeal.Layer.result_eq m c), hr.2 c⟩
  · refine θ_run_mono (Cert.ReferenceIdeal.Value.run m' g') ?_
    intro r hr c
    refine ⟨(hr c).1.trans ?_, (hr c).2⟩
    obtain ⟨h0, h1, h2, h3, h4, h5, h6, h7, h8, h9, h10, h11⟩ := hagree c
    refine (Cert.ReferenceIdeal.Read.val_main_v288_eq (StableHlo.launchContents m' c)).trans ?_
    simp only [StableHlo.launchContents_devRef, h0, h1, h2, h3, h4, h5, h6, h7, h8, h9, h10, h11]
    funext i
    have hi : i = ix2 (i 0) 0 := funext (Fin.cases rfl (Fin.cases (Subsingleton.elim (α := Fin 1) _ _) (fun j => j.elim0)))
    rw [hi]
    exact Cert.Moe.point_value m c (hpre c) (i 0)

theorem claim : Cert.Claim :=
  ⟨Cert.Kernel.Gen.facts, Cert.KernelIdeal.Gen.facts, Cert.ReferenceIdeal.Gen.facts, Cert.Pre_tame.Gen.facts,
    fun m g _ => Cert.Kernel.Gen.frame m g, fun m g _ => Cert.KernelIdeal.Gen.frame m g, fun m g _ => Cert.KernelIdeal.Gen.frame m g,
    reference_frame, fun m g _ => reference_frame m g trivial,
    ⟨IdealRules.named_const.statement Cert.KernelIdeal.κ "third" .f32 0x3EAAAAAB#32 _ rfl,
      IdealRules.named_const.statement Cert.KernelIdeal.κ "mask" .f32 0xFF61B1E6#32 _ rfl⟩,
    values⟩

end Cert.Proof

end
